-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v76) = v2 c
          ∧ r.2.mem ((c.tc : Thread Cert.ReferenceIdeal.nD Cert.ReferenceIdeal.τ).loc Cert.ReferenceIdeal.main_cst_19) = v3 c
          ∧ r.2.mem ((c.tc : Thread Cert.ReferenceIdeal.nD Cert.ReferenceIdeal.τ).loc Cert.ReferenceIdeal.main_v50) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x8x1x512x64 : Shape := ⟨5, ![8, 8, 1, 512, 64]⟩
abbrev S8x1x512 : Shape := ⟨3, ![8, 1, 512]⟩
abbrev S_ : Shape := ⟨0, ![]⟩

class Facts : Prop where
  bcast_S_S8x8x1x512x64 : S_.BroadcastsInDim S8x8x1x512x64 (![] : Fin 0 → Fin S8x8x1x512x64.rank)
  reducesTo_S8x8x1x512x64_S_d0_1_2_3_4 : S8x8x1x512x64.ReducesTo [0, 1, 2, 3, 4] S_
  h_S_ : 0 < S_.numel

variable [Facts]

def fn {F : FTy → Type} [FloatOps F] (main_arg0 : FVec F S8x8x1x512x64 .f32) (main_arg1 : FVec F S8x1x512 .f32) : IVec S_ 1 :=
  let main_v0 : FVec F S8x8x1x512x64 .f32 := Host.absf main_arg0
  let main_cst : FVec F S_ .f32 := constant S_ .f32 0x7F800000#32
  let main_v1 : FVec F S8x8x1x512x64 .f32 := broadcastInDim S8x8x1x512x64 ![] bcast_S_S8x8x1x512x64 main_cst
  let main_v2 : IVec S8x8x1x512x64 1 := cmpf .olt main_v0 main_v1
  let main_c : IVec S_ 1 := constantI S_ 1 1#1
  let main_v3 : IVec S_ 1 := (fun x v => Host.reduce IntOp.andi x v reducesTo_S8x8x1x512x64_S_d0_1_2_3_4 h_S_) main_v2 main_c
  main_v3
-- ==== Kernel.lean ====
abbrev S8x8x1x512x64 : Shape := ⟨5, ![8, 8, 1, 512, 64]⟩
abbrev S8x1x512 : Shape := ⟨3, ![8, 1, 512]⟩
abbrev S1024 : Shape := ⟨1, ![1024]⟩
abbrev S32 : Shape := ⟨1, ![32]⟩
abbrev S_ : Shape := ⟨0, ![]⟩
abbrev S1024x1 : Shape := ⟨2, ![1024, 1]⟩
abbrev S1x32 : Shape := ⟨2, ![1, 32]⟩
abbrev S1024x32 : Shape := ⟨2, ![1024, 32]⟩
abbrev S1024x64 : Shape := ⟨2, ![1024, 64]⟩
abbrev S1x1024x64 : Shape := ⟨3, ![1, 1024, 64]⟩
abbrev S64x1024 : Shape := ⟨2, ![64, 1024]⟩
abbrev S1x1024 : Shape := ⟨2, ![1, 1024]⟩
abbrev S1024x8 : Shape := ⟨2, ![1024, 8]⟩
abbrev S1024x72 : Shape := ⟨2, ![1024, 72]⟩
abbrev S8x8x1x512 : Shape := ⟨4, ![8, 8, 1, 512]⟩
abbrev S8x8x1x512x1 : Shape := ⟨5, ![8, 8, 1, 512, 1]⟩
abbrev S8x1x1x512 : Shape := ⟨4, ![8, 1, 1, 512]⟩
abbrev S1x2x1x512x64 : Shape := ⟨5, ![1, 2, 1, 512, 64]⟩
abbrev S1x2x1x512x1 : Shape := ⟨5, ![1, 2, 1, 512, 1]⟩
abbrev S1x2x1x512 : Shape := ⟨4, ![1, 2, 1, 512]⟩
abbrev S2x512x64 : Shape := ⟨3, ![2, 512, 64]⟩
abbrev S1024x1024 : Shape := ⟨2, ![1024, 1024]⟩
abbrev S2x512x1 : Shape := ⟨3, ![2, 512, 1]⟩
abbrev S2x512 : Shape := ⟨2, ![2, 512]⟩
abbrev S1 : Shape := ⟨1, ![1]⟩
abbrev S1x1 : Shape := ⟨2, ![1, 1]⟩

abbrev nBuf : Space → Nat
  | .hbm => 107
  | .vmem => 13
  | .smem => 0
  | _ => 0

abbrev bufTy : (tb : Table) → Fin (tcTables nBuf tb) → BufTy
  | .hbm, ⟨0, _⟩ => ⟨S8x8x1x512x64, .f32⟩
  | .hbm, ⟨1, _⟩ => ⟨S8x1x512, .f32⟩
  | .hbm, ⟨2, _⟩ => ⟨S1024, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S1024x1, .f32⟩
  | .hbm, ⟨20, _⟩ => ⟨S1x32, .f32⟩
  | .hbm, ⟨21, _⟩ => ⟨S1024x32, .f32⟩
  | .hbm, ⟨22, _⟩ => ⟨S1024x32, .f32⟩
  | .hbm, ⟨23, _⟩ => ⟨S1024x32, .f32⟩
  | .hbm, ⟨24, _⟩ => ⟨S1024x32, .f32⟩
  | .hbm, ⟨25, _⟩ => ⟨S1024x32, .f32⟩
  | .hbm, ⟨26, _⟩ => ⟨S1024x64, .f32⟩
  | .hbm, ⟨27, _⟩ => ⟨S1024x64, .f32⟩
  | .hbm, ⟨28, _⟩ => ⟨S_, .f32⟩
  | .hbm, ⟨29, _⟩ => ⟨S1024, .f32⟩
  | .hbm, ⟨30, _⟩ => ⟨S1024x1, .f32⟩
  | .hbm, ⟨31, _⟩ => ⟨S_, .f32⟩
  | .hbm, ⟨32, _⟩ => ⟨S1024x1, .f32⟩
  | .hbm, ⟨33, _⟩ => ⟨S1024x1, .f32⟩
  | .hbm, ⟨34, _⟩ => ⟨S_, .f32⟩
  | .hbm, ⟨35, _⟩ => ⟨S1024x1, .f32⟩
  | .hbm, ⟨36, _⟩ => ⟨S1024x1, .f32⟩
  | .hbm, ⟨37, _⟩ => ⟨S1024x1, .f32⟩
  | .hbm, ⟨38, _⟩ => ⟨S1024x64, .f32⟩
  | .hbm, ⟨39, _⟩ => ⟨S1024x64, .f32⟩
  | .hbm, ⟨40, _⟩ => ⟨S1x1024x64, .f32⟩
  | .hbm, ⟨41, _⟩ => ⟨S_, .f32⟩
  | .hbm, ⟨42, _⟩ => ⟨S1x1024x64, .f32⟩
  | .hbm, ⟨43, _⟩ => ⟨S1x1024x64, .f32⟩
  | .hbm, ⟨44, _⟩ => ⟨S1024x64, .f32⟩
  | .hbm, ⟨45, _⟩ => ⟨S64x1024, .f32⟩
  | .hbm, ⟨46, _⟩ => ⟨S1x1024x64, .f32⟩
  | .hbm, ⟨47, _⟩ => ⟨S_, .f32⟩
  | .hbm, ⟨48, _⟩ => ⟨S1x1024, .f32⟩
  | .hbm, ⟨49, _⟩ => ⟨S1024, .f32⟩
  | .hbm, ⟨50, _⟩ => ⟨S1x1024, .f32⟩
  | .hbm, ⟨51, _⟩ => ⟨S1024, .f32⟩
  | .hbm, ⟨52, _⟩ => ⟨S_, .f32⟩
  | .hbm, ⟨53, _⟩ => ⟨S1024, .f32⟩
  | .hbm, ⟨54, _⟩ => ⟨S1024, .f32⟩
  | .hbm, ⟨55, _⟩ => ⟨S1024, .f32⟩
  | .hbm, ⟨56, _⟩ => ⟨S_, .f32⟩
  | .hbm, ⟨57, _⟩ => ⟨S_, .f32⟩
  | .hbm, ⟨58, _⟩ => ⟨S1024, .f32⟩
  | .hbm, ⟨59, _⟩ => ⟨S1024, .f32⟩
  | .hbm, ⟨60, _⟩ => ⟨S_, .f32⟩
  | .hbm, ⟨61, _⟩ => ⟨S1024, .f32⟩
  | .hbm, ⟨62, _⟩ => ⟨S1024, .i1⟩
  | .hbm, ⟨63, _⟩ => ⟨S_, .f32⟩
  | .hbm, ⟨64, _⟩ => ⟨S1024, .f32⟩
  | .hbm, ⟨65, _⟩ => ⟨S1024, .i1⟩
  | .hbm, ⟨66, _⟩ => ⟨S_, .f32⟩
  | .hbm, ⟨67, _⟩ => ⟨S_, .i1⟩
  | .hbm, ⟨68, _⟩ => ⟨S1024, .i1⟩
  | .hbm, ⟨69, _⟩ => ⟨S1024, .i1⟩
  | .hbm, ⟨70, _⟩ => ⟨S1024, .i1⟩
  | .hbm, ⟨71, _⟩ => ⟨S1024, .f32⟩
  | .hbm, ⟨72, _⟩ => ⟨S1024, .f32⟩
  | .hbm, ⟨73, _⟩ => ⟨S1024, .f32⟩
  | .hbm, ⟨74, _⟩ => ⟨S_, .f32⟩
  | .hbm, ⟨75, _⟩ => ⟨S1024, .f32⟩
  | .hbm, ⟨76, _⟩ => ⟨S_, .f32⟩
  | .hbm, ⟨77, _⟩ => ⟨S1024, .f32⟩
  | .hbm, ⟨78, _⟩ => ⟨S1024x1, .f32⟩
  | .hbm, ⟨79, _⟩ => ⟨S1024x1, .f32⟩
  | .hbm, ⟨80, _⟩ => ⟨S1024x1, .f32⟩
  | .hbm, ⟨81, _⟩ => ⟨S1024x1, .f32⟩
  | .hbm, ⟨82, _⟩ => ⟨S1024x1, .f32⟩
  | .hbm, ⟨83, _⟩ => ⟨S1024x1, .f32⟩
  | .hbm, ⟨84, _⟩ => ⟨S1024x1, .f32⟩
  | .hbm, ⟨85, _⟩ => ⟨S1024x1, .f32⟩
  | .hbm, ⟨86, _⟩ => ⟨S1024x8, .f32⟩
  | .hbm, ⟨87, _⟩ => ⟨S1024x64, .bf16⟩
  | .hbm, ⟨88, _⟩ => ⟨S1024x8, .bf16⟩
  | .hbm, ⟨89, _⟩ => ⟨S1024x72, .bf16⟩
  | .hbm, ⟨90, _⟩ => ⟨S8x8x1x512x64, .f32⟩
  | .hbm, ⟨91, _⟩ => ⟨S_, .f32⟩
  | .hbm, ⟨92, _⟩ => ⟨S8x8x1x512, .f32⟩
  | .hbm, ⟨93, _⟩ => ⟨S8x8x1x512x1, .f32⟩
  | .hbm, ⟨94, _⟩ => ⟨S8x8x1x512x64, .f32⟩
  | .hbm, ⟨95, _⟩ => ⟨S8x8x1x512, .i32⟩
  | .hbm, ⟨96, _⟩ => ⟨S8x8x1x512, .f32⟩
  | .hbm, ⟨97, _⟩ => ⟨S8x1x1x512, .f32⟩
  | .hbm, ⟨98, _⟩ => ⟨S8x8x1x512, .f32⟩
  | .hbm, ⟨99, _⟩ => ⟨S8x8x1x512, .f32⟩
  | .hbm, ⟨100, _⟩ => ⟨S_, .f32⟩
  | .hbm, ⟨101, _⟩ => ⟨S8x1x512, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .local _ .vmem, ⟨0, _⟩ => ⟨S1x2x1x512x64, .f32⟩
  | .local _ .vmem, ⟨1, _⟩ => ⟨S1x2x1x512x64, .f32⟩
  | .local _ .vmem, ⟨2, _⟩ => ⟨S1x2x1x512x1, .f32⟩
  | .local _ .vmem, ⟨3, _⟩ => ⟨S1x2x1x512x1, .f32⟩
  | .local _ .vmem, ⟨4, _⟩ => ⟨S64x1024, .f32⟩
  | .local _ .vmem, ⟨5, _⟩ => ⟨S1024x72, .bf16⟩
  | .local _ .vmem, ⟨6, _⟩ => ⟨S1x1024, .f32⟩
  | .local _ .vmem, ⟨7, _⟩ => ⟨S1x2x1x512x64, .f32⟩
  | .local _ .vmem, ⟨8, _⟩ => ⟨S1x2x1x512x64, .f32⟩
  | .local _ .vmem, ⟨9, _⟩ => ⟨S1x2x1x512, .i32⟩
  | .local _ .vmem, ⟨10, _⟩ => ⟨S1x2x1x512, .i32⟩
  | .local _ .vmem, ⟨11, _⟩ => ⟨S1x2x1x512, .f32⟩
  | .local _ .vmem, ⟨12, _⟩ => ⟨S1x2x1x512, .f32⟩
  | _, _ => ⟨S8x8x1x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_call0_cst_1 : Ref sig .tc := ⟨.hbm, 10, rfl⟩
abbrev main_call0_v6 : Ref sig .tc := ⟨.hbm, 11, rfl⟩
abbrev main_call0_v7 : Ref sig .tc := ⟨.hbm, 12, rfl⟩
abbrev main_call0_cst_2 : Ref sig .tc := ⟨.hbm, 13, rfl⟩
abbrev main_call0_v8 : Ref sig .tc := ⟨.hbm, 14, rfl⟩
abbrev main_call0_v9 : Ref sig .tc := ⟨.hbm, 15, rfl⟩
abbrev main_call0_cst_3 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_call0_v17 : Ref sig .tc := ⟨.hbm, 24, rfl⟩
abbrev main_call0_v18 : Ref sig .tc := ⟨.hbm, 25, rfl⟩
abbrev main_call0_v19 : Ref sig .tc := ⟨.hbm, 26, rfl⟩
abbrev main_call0_v20 : Ref sig .tc := ⟨.hbm, 27, rfl⟩
abbrev main_call0_cst_4 : Ref sig .tc := ⟨.hbm, 28, rfl⟩
abbrev main_call0_v21 : Ref sig .tc := ⟨.hbm, 29, rfl⟩
abbrev main_call0_v22 : Ref sig .tc := ⟨.hbm, 30, rfl⟩
abbrev main_call0_cst_5 : Ref sig .tc := ⟨.hbm, 31, rfl⟩
abbrev main_call0_v23 : Ref sig .tc := ⟨.hbm, 32, rfl⟩
abbrev main_call0_v24 : Ref sig .tc := ⟨.hbm, 33, rfl⟩
abbrev main_call0_cst_6 : Ref sig .tc := ⟨.hbm, 34, rfl⟩
abbrev main_call0_v25 : Ref sig .tc := ⟨.hbm, 35, rfl⟩
abbrev main_call0_v26 : Ref sig .tc := ⟨.hbm, 36, rfl⟩
abbrev main_call0_v27 : Ref sig .tc := ⟨.hbm, 37, rfl⟩
abbrev main_call0_v28 : Ref sig .tc := ⟨.hbm, 38, rfl⟩
abbrev main_call0_v29 : Ref sig .tc := ⟨.hbm, 39, rfl⟩
abbrev main_call0_v30 : Ref sig .tc := ⟨.hbm, 40, rfl⟩
abbrev main_call0_cst_7 : Ref sig .tc := ⟨.hbm, 41, rfl⟩
abbrev main_call0_v31 : Ref sig .tc := ⟨.hbm, 42, rfl⟩
abbrev main_call0_v32 : Ref sig .tc := ⟨.hbm, 43, rfl⟩
abbrev main_call0_v33 : Ref sig .tc := ⟨.hbm, 44, rfl⟩
abbrev main_call0_v34 : Ref sig .tc := ⟨.hbm, 45, rfl⟩
abbrev main_call0_v35 : Ref sig .tc := ⟨.hbm, 46, rfl⟩
abbrev main_call0_cst_8 : Ref sig .tc := ⟨.hbm, 47, rfl⟩
abbrev main_call0_v36 : Ref sig .tc := ⟨.hbm, 48, rfl⟩
abbrev main_call0_v37 : Ref sig .tc := ⟨.hbm, 49, rfl⟩
abbrev main_call0_v38 : Ref sig .tc := ⟨.hbm, 50, rfl⟩
abbrev main_call0_v39 : Ref sig .tc := ⟨.hbm, 51, rfl⟩
abbrev main_call0_cst_9 : Ref sig .tc := ⟨.hbm, 52, rfl⟩
abbrev main_call0_v40 : Ref sig .tc := ⟨.hbm, 53, rfl⟩
abbrev main_call0_v41 : Ref sig .tc := ⟨.hbm, 54, rfl⟩
abbrev main_call0_v42 : Ref sig .tc := ⟨.hbm, 55, rfl⟩
abbrev main_call0_cst_10 : Ref sig .tc := ⟨.hbm, 56, rfl⟩
abbrev main_call0_call0_v0 : Ref sig .tc := ⟨.hbm, 57, rfl⟩
abbrev main_call0_call0_v1 : Ref sig .tc := ⟨.hbm, 58, rfl⟩
abbrev main_call0_call0_v2 : Ref sig .tc := ⟨.hbm, 59, rfl⟩
abbrev main_call0_call0_cst : Ref sig .tc := ⟨.hbm, 60, rfl⟩
abbrev main_call0_call0_v3 : Ref sig .tc := ⟨.hbm, 61, rfl⟩
abbrev main_call0_call0_v4 : Ref sig .tc := ⟨.hbm, 62, rfl⟩
abbrev main_call0_call0_cst_0 : Ref sig .tc := ⟨.hbm, 63, rfl⟩
abbrev main_call0_call0_v5 : Ref sig .tc := ⟨.hbm, 64, rfl⟩
abbrev main_call0_call0_v6 : Ref sig .tc := ⟨.hbm, 65, rfl⟩
abbrev main_call0_call0_cst_1 : Ref sig .tc := ⟨.hbm, 66, rfl⟩
abbrev main_call0_call0_v7 : Ref sig .tc := ⟨.hbm, 67, rfl⟩
abbrev main_call0_call0_v8 : Ref sig .tc := ⟨.hbm, 68, rfl⟩
abbrev main_call0_call0_v9 : Ref sig .tc := ⟨.hbm, 69, rfl⟩
abbrev main_call0_call0_v10 : Ref sig .tc := ⟨.hbm, 70, rfl⟩
abbrev main_call0_call0_v11 : Ref sig .tc := ⟨.hbm, 71, rfl⟩
abbrev main_call0_call0_v12 : Ref sig .tc := ⟨.hbm, 72, rfl⟩
abbrev main_call0_v43 : Ref sig .tc := ⟨.hbm, 73, rfl⟩
abbrev main_call0_cst_11 : Ref sig .tc := ⟨.hbm, 74, rfl⟩
abbrev main_call0_v44 : Ref sig .tc := ⟨.hbm, 75, rfl⟩
abbrev main_call0_cst_12 : Ref sig .tc := ⟨.hbm, 76, rfl⟩
abbrev main_call0_v45 : Ref sig .tc := ⟨.hbm, 77, rfl⟩
abbrev main_call0_v46 : Ref sig .tc := ⟨.hbm, 78, rfl⟩
abbrev main_call0_v47 : Ref sig .tc := ⟨.hbm, 79, rfl⟩
abbrev main_call0_v48 : Ref sig .tc := ⟨.hbm, 80, rfl⟩
abbrev main_call0_v49 : Ref sig .tc := ⟨.hbm, 81, rfl⟩
abbrev main_call0_v50 : Ref sig .tc := ⟨.hbm, 82, rfl⟩
abbrev main_call0_v51 : Ref sig .tc := ⟨.hbm, 83, rfl⟩
abbrev main_call0_v52 : Ref sig .tc := ⟨.hbm, 84, rfl⟩
abbrev main_call0_v53 : Ref sig .tc := ⟨.hbm, 85, rfl⟩
abbrev main_call0_v54 : Ref sig .tc := ⟨.hbm, 86, rfl⟩
abbrev main_call0_v55 : Ref sig .tc := ⟨.hbm, 87, rfl⟩
abbrev main_call0_v56 : Ref sig .tc := ⟨.hbm, 88, rfl⟩
abbrev main_call0_v57 : Ref sig .tc := ⟨.hbm, 89, rfl⟩
abbrev main_call0_v58 : Ref sig .tc := ⟨.hbm, 90, rfl⟩
abbrev main_call0_cst_13 : Ref sig .tc := ⟨.hbm, 91, rfl⟩
abbrev main_call0_v59 : Ref sig .tc := ⟨.hbm, 92, rfl⟩
abbrev main_call0_v60 : Ref sig .tc := ⟨.hbm, 93, rfl⟩
abbrev main_v0_0 : Ref sig .tc := ⟨.hbm, 94, rfl⟩
abbrev main_v0_1 : Ref sig .tc := ⟨.hbm, 95, rfl⟩
abbrev main_v0_4 : Ref sig .tc := ⟨.hbm, 96, rfl⟩
abbrev main_call0_v62 : Ref sig .tc := ⟨.hbm, 97, rfl⟩
abbrev main_call0_v63 : Ref sig .tc := ⟨.hbm, 98, rfl⟩
abbrev main_call0_v64 : Ref sig .tc := ⟨.hbm, 99, rfl⟩
abbrev main_call0_cst_14 : Ref sig .tc := ⟨.hbm, 100, rfl⟩
abbrev main_call0_v65 : Ref sig .tc := ⟨.hbm, 101, rfl⟩
abbrev main_call0_cst_15 : Ref sig .tc := ⟨.hbm, 102, rfl⟩
abbrev main_call0_v66 : Ref sig .tc := ⟨.hbm, 103, rfl⟩
abbrev main_call0_cst_16 : Ref sig .tc := ⟨.hbm, 104, rfl⟩
abbrev main_v0_2 : Ref sig .tc := ⟨.hbm, 105, rfl⟩
abbrev main_v0_3 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 4], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x72 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2x1x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x1x512 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S8x8x1x512x64 : Shape := ⟨5, ![8, 8, 1, 512, 64]⟩
abbrev S8x1x512 : Shape := ⟨3, ![8, 1, 512]⟩
abbrev S1024 : Shape := ⟨1, ![1024]⟩
abbrev S_ : Shape := ⟨0, ![]⟩
abbrev S32 : Shape := ⟨1, ![32]⟩
abbrev S1024x1 : Shape := ⟨2, ![1024, 1]⟩
abbrev S1x32 : Shape := ⟨2, ![1, 32]⟩
abbrev S1024x32 : Shape := ⟨2, ![1024, 32]⟩
abbrev S1024x64 : Shape := ⟨2, ![1024, 64]⟩
abbrev S1x1024x64 : Shape := ⟨3, ![1, 1024, 64]⟩
abbrev S8x8x1x512 : Shape := ⟨4, ![8, 8, 1, 512]⟩
abbrev S8x8x1x512x1 : Shape := ⟨5, ![8, 8, 1, 512, 1]⟩
abbrev S1x1024x8x8x512 : Shape := ⟨5, ![1, 1024, 8, 8, 512]⟩
abbrev S8x8x1x512x1024 : Shape := ⟨5, ![8, 8, 1, 512, 1024]⟩
abbrev S1x1024 : Shape := ⟨2, ![1, 1024]⟩
abbrev S1x1x1x1024 : Shape := ⟨4, ![1, 1, 1, 1024]⟩
abbrev S1x1x1x1x1024 : Shape := ⟨5, ![1, 1, 1, 1, 1024]⟩
abbrev S1 : Shape := ⟨1, ![1]⟩
abbrev S1x1x1x1 : Shape := ⟨4, ![1, 1, 1, 1]⟩
abbrev S8x8x1x512x2 : Shape := ⟨5, ![8, 8, 1, 512, 2]⟩
abbrev S8x1x1x512 : Shape := ⟨4, ![8, 1, 1, 512]⟩

abbrev nBuf : Space → Nat
  | .hbm => 105
  | .vmem => 0
  | .smem => 0
  | _ => 0

abbrev bufTy : (tb : Table) → Fin (tcTables nBuf tb) → BufTy
  | .hbm, ⟨0, _⟩ => ⟨S8x8x1x512x64, .f32⟩
  | .hbm, ⟨1, _⟩ => ⟨S8x1x512, .f32⟩
  | .hbm, ⟨2, _⟩ => ⟨S1024, .f32⟩
  | .hbm, ⟨3, _⟩ => ⟨S_, .f32⟩
  | .hbm, ⟨4, _⟩ => ⟨S1024, .f32⟩
  | .hbm, ⟨5, _⟩ => ⟨S1024, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S1024x1, .f32⟩
  | .hbm, ⟨23, _⟩ => ⟨S1x32, .f32⟩
  | .hbm, ⟨24, _⟩ => ⟨S1024x32, .f32⟩
  | .hbm, ⟨25, _⟩ => ⟨S1024x32, .f32⟩
  | .hbm, ⟨26, _⟩ => ⟨S1024x32, .f32⟩
  | .hbm, ⟨27, _⟩ => ⟨S1024x32, .f32⟩
  | .hbm, ⟨28, _⟩ => ⟨S1024x32, .f32⟩
  | .hbm, ⟨29, _⟩ => ⟨S1024x64, .f32⟩
  | .hbm, ⟨30, _⟩ => ⟨S1024x64, .f32⟩
  | .hbm, ⟨31, _⟩ => ⟨S_, .f32⟩
  | .hbm, ⟨32, _⟩ => ⟨S1024, .f32⟩
  | .hbm, ⟨33, _⟩ => ⟨S1024x1, .f32⟩
  | .hbm, ⟨34, _⟩ => ⟨S_, .f32⟩
  | .hbm, ⟨35, _⟩ => ⟨S1024x1, .f32⟩
  | .hbm, ⟨36, _⟩ => ⟨S1024x1, .f32⟩
  | .hbm, ⟨37, _⟩ => ⟨S_, .f32⟩
  | .hbm, ⟨38, _⟩ => ⟨S1024x1, .f32⟩
  | .hbm, ⟨39, _⟩ => ⟨S1024x1, .f32⟩
  | .hbm, ⟨40, _⟩ => ⟨S1024x1, .f32⟩
  | .hbm, ⟨41, _⟩ => ⟨S1024x64, .f32⟩
  | .hbm, ⟨42, _⟩ => ⟨S1024x64, .f32⟩
  | .hbm, ⟨43, _⟩ => ⟨S_, .f32⟩
  | .hbm, ⟨44, _⟩ => ⟨S1024x64, .f32⟩
  | .hbm, ⟨45, _⟩ => ⟨S1024x64, .f32⟩
  | .hbm, ⟨46, _⟩ => ⟨S1x1024x64, .f32⟩
  | .hbm, ⟨47, _⟩ => ⟨S8x8x1x512x64, .f32⟩
  | .hbm, ⟨48, _⟩ => ⟨S_, .f32⟩
  | .hbm, ⟨49, _⟩ => ⟨S8x8x1x512, .f32⟩
  | .hbm, ⟨50, _⟩ => ⟨S8x8x1x512x1, .f32⟩
  | .hbm, ⟨51, _⟩ => ⟨S1x1024x8x8x512, .f32⟩
  | .hbm, ⟨52, _⟩ => ⟨S8x8x1x512x1024, .f32⟩
  | .hbm, ⟨53, _⟩ => ⟨S_, .f32⟩
  | .hbm, ⟨54, _⟩ => ⟨S8x8x1x512x1024, .f32⟩
  | .hbm, ⟨55, _⟩ => ⟨S8x8x1x512x1024, .f32⟩
  | .hbm, ⟨56, _⟩ => ⟨S8x8x1x512x1024, .f32⟩
  | .hbm, ⟨57, _⟩ => ⟨S8x8x1x512x1024, .f32⟩
  | .hbm, ⟨58, _⟩ => ⟨S1x1024x64, .f32⟩
  | .hbm, ⟨59, _⟩ => ⟨S_, .f32⟩
  | .hbm, ⟨60, _⟩ => ⟨S1x1024, .f32⟩
  | .hbm, ⟨61, _⟩ => ⟨S1x1x1x1024, .f32⟩
  | .hbm, ⟨62, _⟩ => ⟨S1x1x1x1x1024, .f32⟩
  | .hbm, ⟨63, _⟩ => ⟨S8x8x1x512x1024, .f32⟩
  | .hbm, ⟨64, _⟩ => ⟨S8x8x1x512x1024, .f32⟩
  | .hbm, ⟨65, _⟩ => ⟨S_, .f32⟩
  | .hbm, ⟨66, _⟩ => ⟨S8x8x1x512, .f32⟩
  | .hbm, ⟨67, _⟩ => ⟨S8x8x1x512x1024, .i32⟩
  | .hbm, ⟨68, _⟩ => ⟨S_, .f32⟩
  | .hbm, ⟨69, _⟩ => ⟨S_, .i32⟩
  | .hbm, ⟨70, _⟩ => ⟨S8x8x1x512, .f32⟩
  | .hbm, ⟨71, _⟩ => ⟨S8x8x1x512, .i32⟩
  | .hbm, ⟨72, _⟩ => ⟨S1, .i32⟩
  | .hbm, ⟨73, _⟩ => ⟨S1x1x1x1, .i32⟩
  | .hbm, ⟨74, _⟩ => ⟨S_, .i32⟩
  | .hbm, ⟨75, _⟩ => ⟨S1x1x1x1, .i32⟩
  | .hbm, ⟨76, _⟩ => ⟨S1x1x1x1, .i1⟩
  | .hbm, ⟨77, _⟩ => ⟨S_, .i32⟩
  | .hbm, ⟨78, _⟩ => ⟨S1x1x1x1, .i32⟩
  | .hbm, ⟨79, _⟩ => ⟨S1x1x1x1, .i32⟩
  | .hbm, ⟨80, _⟩ => ⟨S1x1x1x1, .i32⟩
  | .hbm, ⟨81, _⟩ => ⟨S_, .i32⟩
  | .hbm, ⟨82, _⟩ => ⟨S8x8x1x512, .i32⟩
  | .hbm, ⟨83, _⟩ => ⟨S8x8x1x512, .i1⟩
  | .hbm, ⟨84, _⟩ => ⟨S_, .i32⟩
  | .hbm, ⟨85, _⟩ => ⟨S8x8x1x512, .i32⟩
  | .hbm, ⟨86, _⟩ => ⟨S8x8x1x512, .i32⟩
  | .hbm, ⟨87, _⟩ => ⟨S8x8x1x512, .i32⟩
  | .hbm, ⟨88, _⟩ => ⟨S8x8x1x512, .i32⟩
  | .hbm, ⟨89, _⟩ => ⟨S8x8x1x512x1, .i32⟩
  | .hbm, ⟨90, _⟩ => ⟨S8x8x1x512x1, .i32⟩
  | .hbm, ⟨91, _⟩ => ⟨S8x8x1x512x2, .i32⟩
  | .hbm, ⟨92, _⟩ => ⟨S8x8x1x512x64, .f32⟩
  | .hbm, ⟨93, _⟩ => ⟨S8x8x1x512x64, .f32⟩
  | .hbm, ⟨94, _⟩ => ⟨S8x8x1x512x64, .f32⟩
  | .hbm, ⟨95, _⟩ => ⟨S8x1x1x512, .f32⟩
  | .hbm, ⟨96, _⟩ => ⟨S8x8x1x512, .f32⟩
  | .hbm, ⟨97, _⟩ => ⟨S8x8x1x512, .f32⟩
  | .hbm, ⟨98, _⟩ => ⟨S_, .f32⟩
  | .hbm, ⟨99, _⟩ => ⟨S8x1x512, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | _, _ => ⟨S8x8x1x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_cst_7 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_8 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_9 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_10 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_11 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_12 : Ref sig .tc := ⟨.hbm, 65, rfl⟩
abbrev main_v50 : Ref sig .tc := ⟨.hbm, 66, rfl⟩
abbrev main_call0_v0 : Ref sig .tc := ⟨.hbm, 67, rfl⟩
abbrev main_call0_cst : Ref sig .tc := ⟨.hbm, 68, rfl⟩
abbrev main_call0_c : Ref sig .tc := ⟨.hbm, 69, rfl⟩
abbrev main_call0_v1_0 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c : Ref sig .tc := ⟨.hbm, 74, rfl⟩
abbrev main_v54 : Ref sig .tc := ⟨.hbm, 75, rfl⟩
abbrev main_v55 : Ref sig .tc := ⟨.hbm, 76, rfl⟩
abbrev main_c_13 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_14 : Ref sig .tc := ⟨.hbm, 81, rfl⟩
abbrev main_v59 : Ref sig .tc := ⟨.hbm, 82, rfl⟩
abbrev main_v60 : Ref sig .tc := ⟨.hbm, 83, rfl⟩
abbrev main_c_15 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_16 : Ref sig .tc := ⟨.hbm, 98, rfl⟩
abbrev main_v74 : Ref sig .tc := ⟨.hbm, 99, rfl⟩
abbrev main_cst_17 : Ref sig .tc := ⟨.hbm, 100, rfl⟩
abbrev main_v75 : Ref sig .tc := ⟨.hbm, 101, rfl⟩
abbrev main_cst_18 : Ref sig .tc := ⟨.hbm, 102, rfl⟩
abbrev main_v76 : Ref sig .tc := ⟨.hbm, 103, rfl⟩
abbrev main_cst_19 : Ref sig .tc := ⟨.hbm, 104, rfl⟩

abbrev nD : Nat := 1
abbrev τ : Topo := Topo.v7x

variable {F : FTy → Type} [FloatOps F]
-- ==== Proof.Frame.Whole.lean ====
/- A load and a store through the whole of a buffer. -/
module

public import Idealize.ShloMosaic.Lib.Pipeline.FrameBody
public import Idealize.ShloMosaic.Lib.Pipeline.Value
public import Idealize.ShloMosaic.Lib.WholeRead

@[expose] public section

namespace Cert.Whole

open Idealize.ShloMosaic Idealize.SL.Sem View

variable {sig : RefSig} {κ : Kind} {sp : Space} {S : Shape} {e : EltTy} {Val : EltTy → Type}

/-- A load of the whole of a buffer known to hold `X` reads `X`. -/
theorem load {m : Memref sig κ sp S e} (h : m.IsWhole) {off : Fin S.rank → Nat} (hz : off = fun _ => 0)
    (inb : ∀ a, off a + S.size a ≤ S.size a) (X : S.Idx → Val e) :
    View.readAt Val m.view (Rect.unit off S.size inb).toLoadRect (h.unread X) = X := by
  subst hz
  funext x
  rw [h.readAt_unread]
  exact congrArg X (Rect.emb_whole_apply S x)

/-- What a buffer reads after a store to the whole of it is what was stored, whatever was stored before. -/
theorem store [∀ e, Nonempty (Val e)] (v : View sig κ sp S e) (f : v.ty.Contents Val) {off : Fin S.rank → Nat}
    (hz : off = fun _ => 0) (inb : ∀ a, off a + S.size a ≤ S.size a) (w : S.Idx → Val e) (L : List (Piece Val S e)) :
    v.read Val (v.writes Val f ((⟨Rect.unit off S.size inb, w⟩ : Piece Val S e) :: L)) = w := by
  rw [View.read_writes_eq_canon v f _ (fun y => ⟨_, List.mem_cons_self, ?_⟩), View.canon_cons_unit_zero hz]
  subst hz
  show y ∈ (Rect.whole S).set
  rw [Rect.set_whole]; exact Finset.mem_univ y

/-- The zero offsets of a two, four and five dimensional rectangle. -/
theorem off2 : (![0, 0] : Fin 2 → Nat) = fun _ => 0 := by decide
theorem off4 : (![0, 0, 0, 0] : Fin 4 → Nat) = fun _ => 0 := by decide
theorem off5 : (![0, 0, 0, 0, 0] : Fin 5 → Nat) = fun _ => 0 := by decide

end Cert.Whole
-- ==== Proof.Frame.IdealBody.lean ====
/- What the kernel's body leaves at one grid point, from the blocks it is given. -/
module

public import proofs.«01_k».proof.Proof.Gen.KernelIdeal.Skeleton
public import proofs.«01_k».proof.Proof.Gen.KernelIdeal.Frame
public import Idealize.ShloMosaic.Lib.Claim
public import proofs.«01_k».proof.Proof.Frame.Whole

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- Some row of the block has two codewords at its least distance: the condition under which the body redoes
    its choice, from the block's five inputs. -/
def Tied (x0 : Vec F S1x2x1x512x64 .f32) (x1 : Vec F S1x2x1x512x1 .f32) (x2 : Vec F S64x1024 .f32) (x3 : Vec F S1024x72 .bf16) (x4 : Vec F S1x1024 .f32) : Prop :=
  Scalar.cmpi .ne (Scalar.extui (Scalar.cmpf .ogt (k0_pay3 (k0_pay10 x0 x2 x1 x4 x3)) (Scalar.ofBits .f32 0x3FC00000#32))) 0#32 = 1#1

open Classical in
/-- The codewords the body leaves for the block's vectors. -/
def hatOf (x0 : Vec F S1x2x1x512x64 .f32) (x1 : Vec F S1x2x1x512x1 .f32) (x2 : Vec F S64x1024 .f32) (x3 : Vec F S1024x72 .bf16) (x4 : Vec F S1x1024 .f32) : FVec F S1x2x1x512x64 .f32 :=
  if Tied x0 x1 x2 x3 x4 then k0_pay5 (k0_pay7 x0 x2 x1 x4) (k0_pay8 x0 x2 x1 x4) x3 else k0_pay1 (k0_pay11 x0 x2 x1 x4 x3)

open Classical in
/-- The codewords' numbers the body leaves for the block's vectors. -/
def zOf (x0 : Vec F S1x2x1x512x64 .f32) (x1 : Vec F S1x2x1x512x1 .f32) (x2 : Vec F S64x1024 .f32) (x3 : Vec F S1024x72 .bf16) (x4 : Vec F S1x1024 .f32) : IVec S1x2x1x512 32 :=
  if Tied x0 x1 x2 x3 x4 then k0_pay6 (k0_pay7 x0 x2 x1 x4) (k0_pay8 x0 x2 x1 x4) else k0_pay2 (k0_pay10 x0 x2 x1 x4 x3)

set_option maxHeartbeats 1000000 in
/-- The body at any grid point: from its five input blocks it leaves in the three output blocks the codewords, their
    numbers and the least distances, and the inputs as they were. -/
theorem body_run (c : Dev nD) (i : grid0.Coords) (arg2 : Memref sig .tc .vmem S1x2x1x512x64 .f32) (harg2 : arg2.IsWhole) (arg3 : Memref sig .tc .vmem S1x2x1x512x1 .f32) (harg3 : arg3.IsWhole) (arg4 : Memref sig .tc .vmem S64x1024 .f32) (harg4 : arg4.IsWhole) (arg5 : Memref sig .tc .vmem S1024x72 .bf16) (harg5 : arg5.IsWhole) (arg6 : Memref sig .tc .vmem S1x1024 .f32) (harg6 : arg6.IsWhole) (arg7 : Memref sig .tc .vmem S1x2x1x512x64 .f32) (harg7 : arg7.IsWhole) (arg8 : Memref sig .tc .vmem S1x2x1x512 .i32) (harg8 : arg8.IsWhole) (arg9 : Memref sig .tc .vmem S1x2x1x512 .f32) (harg9 : arg9.IsWhole)
    (x0 : Vec F S1x2x1x512x64 .f32) (x1 : Vec F S1x2x1x512x1 .f32) (x2 : Vec F S64x1024 .f32) (x3 : Vec F S1024x72 .bf16) (x4 : Vec F S1x1024 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (hatOf x0 x1 x2 x3 x4)
            ∗ owns (c : Thread nD τ) arg8 fullShare (zOf x0 x1 x2 x3 x4)
            ∗ owns (c : Thread nD τ) arg9 fullShare (k0_pay9 x0 x2 x1 x4)) -∗ K ⟨⟩))
      ⊢ wp frame (wpE (defs₀ (F := F)) Variants.none c none) E (cc0__vq_tile_kernel i arg2 harg2 arg3 harg3 arg4 harg4 arg5 harg5 arg6 harg6 arg7 harg7 arg8 harg8 arg9 harg9) K := by
  simp only [cc0__vq_tile_kernel_eq_skeleton]; unfold cc0__vq_tile_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := harg2.eq_unread hf0
  obtain rfl := harg3.eq_unread hf1
  obtain rfl := harg4.eq_unread hf2
  obtain rfl := harg5.eq_unread hf3
  obtain rfl := harg6.eq_unread hf4
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    unfold hatOf Tied
    sl_unfold_run_names
    simp only [Whole.load harg2 Whole.off5, Whole.load harg3 Whole.off5, Whole.load harg4 Whole.off2, Whole.load harg5 Whole.off2, Whole.load harg6 Whole.off2]
    split <;> exact Whole.store _ _ Whole.off5 _ _ _
  isplitl [H6]
  · iexists _; isplitr
    swap; · iexact H6
    ipureintro
    unfold zOf Tied
    sl_unfold_run_names
    simp only [Whole.load harg2 Whole.off5, Whole.load harg3 Whole.off5, Whole.load harg4 Whole.off2, Whole.load harg5 Whole.off2, Whole.load harg6 Whole.off2]
    split <;> exact Whole.store _ _ Whole.off4 _ _ _
  iexists _; isplitr
  swap; · iexact H7
  ipureintro
  sl_unfold_run_names
  simp only [Whole.load harg2 Whole.off5, Whole.load harg3 Whole.off5, Whole.load harg4 Whole.off2, Whole.load harg6 Whole.off2]
  exact Whole.store _ _ Whole.off4 _ _ _

end Cert.KernelIdeal.Hand

end
-- ==== Proof.Frame.IdealRun.lean ====
/- The kernel's run: the proof data of its pipeline, the body at every grid point, and that the run ends with its
   arguments unchanged and every semaphore at zero. -/
module

public import proofs.«01_k».proof.Proof.Frame.IdealBody

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging buffer at point `t`. -/
abbrev ms0_0 (t : Fin cfg0.N) : Memref sig .tc .vmem S1x2x1x512x64 .f32 := win0_0.stage (cfg0.slots t 0)
abbrev ms0_1 (t : Fin cfg0.N) : Memref sig .tc .vmem S1x2x1x512x1 .f32 := win0_1.stage (cfg0.slots t 1)
abbrev ms0_2 (t : Fin cfg0.N) : Memref sig .tc .vmem S64x1024 .f32 := win0_2.stage (cfg0.slots t 2)
abbrev ms0_3 (t : Fin cfg0.N) : Memref sig .tc .vmem S1024x72 .bf16 := win0_3.stage (cfg0.slots t 3)
abbrev ms0_4 (t : Fin cfg0.N) : Memref sig .tc .vmem S1x1024 .f32 := win0_4.stage (cfg0.slots t 4)
abbrev ms0_5 (t : Fin cfg0.N) : Memref sig .tc .vmem S1x2x1x512x64 .f32 := win0_5.stage (cfg0.slots t 5)
abbrev ms0_6 (t : Fin cfg0.N) : Memref sig .tc .vmem S1x2x1x512 .i32 := win0_6.stage (cfg0.slots t 6)
abbrev ms0_7 (t : Fin cfg0.N) : Memref sig .tc .vmem S1x2x1x512 .f32 := win0_7.stage (cfg0.slots t 7)

/-- The proof data of the one pipeline on core `c`: the arrays as the region finds them (`V`); after the body at
    point `t` each input's buffer holds its block and each output's what `body_run` says; the invariant is the scoped
    rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hatOf (iblk m c 0 t) (iblk m c 1 t) (iblk m c 2 t) (iblk m c 3 t) (iblk m c 4 t)
    | ⟨6, _⟩ => zOf (iblk m c 0 t) (iblk m c 1 t) (iblk m c 2 t) (iblk m c 3 t) (iblk m c 4 t)
    | ⟨7, _⟩ => k0_pay9 (iblk m c 0 t) (iblk m c 2 t) (iblk m c 1 t) (iblk m c 4 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = hatOf (iblk m c 0 t) (iblk m c 1 t) (iblk m c 2 t) (iblk m c 3 t) (iblk m c 4 t) := by dsimp only [dats]
theorem after0_6 (c : Dev nD) (t : Fin cfg0.N) : (dats m 0 c).after 6 t = zOf (iblk m c 0 t) (iblk m c 1 t) (iblk m c 2 t) (iblk m c 3 t) (iblk m c 4 t) := by dsimp only [dats]
theorem after0_7 (c : Dev nD) (t : Fin cfg0.N) : (dats m 0 c).after 7 t = k0_pay9 (iblk m c 0 t) (iblk m c 2 t) (iblk m c 1 t) (iblk m c 4 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 1600000 in
/-- The body at any point: the inputs' buffers hold their blocks, so `body_run` applies; the invariant passes through
    unread, and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c (grid0.coords t) _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the run ends, the arguments end unchanged, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Hand

end
-- ==== Proof.Reference.Run.lean ====
/-
The reference's run, read back from its list of operations.

The reference is one line of whole-array operations with one call, to the function that finds the position of the
smallest distance. This module writes that line as a list, names the values the equation speaks of, and states that
every execution ends with each result at its named value and with the arguments as they were.
-/
module

public import proofs.«01_k».proof.Proof.Gen.ReferenceIdeal
public import Idealize.ShloMosaic.Lib.StableHlo.Run

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Two halves of a table of 64 columns, side by side. -/
def joinHalves : (⟨S1024x32, .f32⟩ : BufTy).Contents (Elt F) → (⟨S1024x32, .f32⟩ : BufTy).Contents (Elt F) → (⟨S1024x64, .f32⟩ : BufTy).Contents (Elt F) :=
  fun a b => concatenate S1024x64 1 [⟨S1024x32, a⟩, ⟨S1024x32, b⟩] concatenates_S1024x32_S1024x32_S1024x64_d1

/-- Two index arrays paired, for a lookup on two axes. -/
def joinIndices : (⟨S8x8x1x512x1, .i32⟩ : BufTy).Contents (Elt F) → (⟨S8x8x1x512x1, .i32⟩ : BufTy).Contents (Elt F) → (⟨S8x8x1x512x2, .i32⟩ : BufTy).Contents (Elt F) :=
  fun a b => concatenate S8x8x1x512x2 4 [⟨S8x8x1x512x1, a⟩, ⟨S8x8x1x512x1, b⟩] concatenates_S8x8x1x512x1_S8x8x1x512x1_S8x8x1x512x2_d4

/-- The smallest entry of each row, the value kept by the search for its position. -/
def leastValue : (⟨S8x8x1x512x1024, .f32⟩ : BufTy).Contents (Elt F) → (⟨S8x8x1x512x1024, .i32⟩ : BufTy).Contents (Elt F) → (⟨S_, .f32⟩ : BufTy).Contents (Elt F) → (⟨S_, .i32⟩ : BufTy).Contents (Elt F) → (⟨S8x8x1x512, .f32⟩ : BufTy).Contents (Elt F) :=
  fun x y u v j => (Host.argReduce reducer_argmin_f32_i32 x y u v reducesTo_S8x8x1x512x1024_S8x8x1x512_d4 h_S_ j).1

/-- The position of the smallest entry of each row. -/
def leastIndex : (⟨S8x8x1x512x1024, .f32⟩ : BufTy).Contents (Elt F) → (⟨S8x8x1x512x1024, .i32⟩ : BufTy).Contents (Elt F) → (⟨S_, .f32⟩ : BufTy).Contents (Elt F) → (⟨S_, .i32⟩ : BufTy).Contents (Elt F) → (⟨S8x8x1x512, .i32⟩ : BufTy).Contents (Elt F) :=
  fun x y u v j => (Host.argReduce reducer_argmin_f32_i32 x y u v reducesTo_S8x8x1x512x1024_S8x8x1x512_d4 h_S_ j).2

/-- The reference's operations in order, the call's own in the call's place. -/
abbrev ops : List (HloOp τ sig (Elt F)) :=
  [ nullary main_v0 (sitofp .f32 (iotaInDim S1024 32 0)),
    nullary main_cst (constant S_ .f32 0x00000000#32),
    unary main_cst main_v1 (broadcastInDim S1024 ![] bcast_S_S1024 : (⟨S_, .f32⟩ : BufTy).Contents (Elt F) → (⟨S1024, .f32⟩ : BufTy).Contents (Elt F)),
    binary main_v1 main_v0 main_v2 (addf : (⟨S1024, .f32⟩ : BufTy).Contents (Elt F) → (⟨S1024, .f32⟩ : BufTy).Contents (Elt F) → (⟨S1024, .f32⟩ : BufTy).Contents (Elt F)),
    nullary main_v3 (sitofp .f32 (iotaInDim S32 32 0)),
    nullary main_cst_0 (constant S_ .f32 0x40000000#32),
    unary main_cst_0 main_v4 (broadcastInDim S32 ![] bcast_S_S32 : (⟨S_, .f32⟩ : BufTy).Contents (Elt F) → (⟨S32, .f32⟩ : BufTy).Contents (Elt F)),
    binary main_v4 main_v3 main_v5 (mulf : (⟨S32, .f32⟩ : BufTy).Contents (Elt F) → (⟨S32, .f32⟩ : BufTy).Contents (Elt F) → (⟨S32, .f32⟩ : BufTy).Contents (Elt F)),
    nullary main_cst_1 (constant S_ .f32 0x00000000#32),
    unary main_cst_1 main_v6 (broadcastInDim S32 ![] bcast_S_S32 : (⟨S_, .f32⟩ : BufTy).Contents (Elt F) → (⟨S32, .f32⟩ : BufTy).Contents (Elt F)),
    binary main_v6 main_v5 main_v7 (addf : (⟨S32, .f32⟩ : BufTy).Contents (Elt F) → (⟨S32, .f32⟩ : BufTy).Contents (Elt F) → (⟨S32, .f32⟩ : BufTy).Contents (Elt F)),
    nullary main_cst_2 (constant S_ .f32 0x42800000#32),
    unary main_cst_2 main_v8 (broadcastInDim S32 ![] bcast_S_S32 : (⟨S_, .f32⟩ : BufTy).Contents (Elt F) → (⟨S32, .f32⟩ : BufTy).Contents (Elt F)),
    binary main_v7 main_v8 main_v9 (Host.divf : (⟨S32, .f32⟩ : BufTy).Contents (Elt F) → (⟨S32, .f32⟩ : BufTy).Contents (Elt F) → (⟨S32, .f32⟩ : BufTy).Contents (Elt F)),
    nullary main_cst_3 (constant S_ .f32 0x47C35000#32),
    unary main_cst_3 main_v10 (broadcastInDim S32 ![] bcast_S_S32 : (⟨S_, .f32⟩ : BufTy).Contents (Elt F) → (⟨S32, .f32⟩ : BufTy).Contents (Elt F)),
    binary main_v10 main_v9 main_v11 (Host.powf : (⟨S32, .f32⟩ : BufTy).Contents (Elt F) → (⟨S32, .f32⟩ : BufTy).Contents (Elt F) → (⟨S32, .f32⟩ : BufTy).Contents (Elt F)),
    nullary main_cst_4 (constant S_ .f32 0x3F800000#32),
    unary main_cst_4 main_v12 (broadcastInDim S32 ![] bcast_S_S32 : (⟨S_, .f32⟩ : BufTy).Contents (Elt F) → (⟨S32, .f32⟩ : BufTy).Contents (Elt F)),
    binary main_v12 main_v11 main_v13 (Host.divf : (⟨S32, .f32⟩ : BufTy).Contents (Elt F) → (⟨S32, .f32⟩ : BufTy).Contents (Elt F) → (⟨S32, .f32⟩ : BufTy).Contents (Elt F)),
    unary main_v2 main_v14 (broadcastInDim S1024x1 ![0] bcast_S1024_S1024x1_0 : (⟨S1024, .f32⟩ : BufTy).Contents (Elt F) → (⟨S1024x1, .f32⟩ : BufTy).Contents (Elt F)),
    unary main_v13 main_v15 (broadcastInDim S1x32 ![1] bcast_S32_S1x32_1 : (⟨S32, .f32⟩ : BufTy).Contents (Elt F) → (⟨S1x32, .f32⟩ : BufTy).Contents (Elt F)),
    unary main_v14 main_v16 (broadcastInDim S1024x32 ![0, 1] bcast_S1024x1_S1024x32_0_1 : (⟨S1024x1, .f32⟩ : BufTy).Contents (Elt F) → (⟨S1024x32, .f32⟩ : BufTy).Contents (Elt F)),
    unary main_v15 main_v17 (broadcastInDim S1024x32 ![0, 1] bcast_S1x32_S1024x32_0_1 : (⟨S1x32, .f32⟩ : BufTy).Contents (Elt F) → (⟨S1024x32, .f32⟩ : BufTy).Contents (Elt F)),
    binary main_v16 main_v17 main_v18 (mulf : (⟨S1024x32, .f32⟩ : BufTy).Contents (Elt F) → (⟨S1024x32, .f32⟩ : BufTy).Contents (Elt F) → (⟨S1024x32, .f32⟩ : BufTy).Contents (Elt F)),
    unary main_v18 main_v19 (Host.sin : (⟨S1024x32, .f32⟩ : BufTy).Contents (Elt F) → (⟨S1024x32, .f32⟩ : BufTy).Contents (Elt F)),
    unary main_v18 main_v20 (Host.cos : (⟨S1024x32, .f32⟩ : BufTy).Contents (Elt F) → (⟨S1024x32, .f32⟩ : BufTy).Contents (Elt F)),
    binary main_v19 main_v20 main_v21 (joinHalves (F := F)),
    binary main_v21 main_v21 main_v22 (mulf : (⟨S1024x64, .f32⟩ : BufTy).Contents (Elt F) → (⟨S1024x64, .f32⟩ : BufTy).Contents (Elt F) → (⟨S1024x64, .f32⟩ : BufTy).Contents (Elt F)),
    nullary main_cst_5 (constant S_ .f32 0x00000000#32),
    binary main_v22 main_cst_5 main_v23 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v23 main_v24 (broadcastInDim S1024x1 ![0] bcast_S1024_S1024x1_0 : (⟨S1024, .f32⟩ : BufTy).Contents (Elt F) → (⟨S1024x1, .f32⟩ : BufTy).Contents (Elt F)),
    nullary main_cst_6 (constant S_ .f32 0x42800000#32),
    unary main_cst_6 main_v25 (broadcastInDim S1024x1 ![] bcast_S_S1024x1 : (⟨S_, .f32⟩ : BufTy).Contents (Elt F) → (⟨S1024x1, .f32⟩ : BufTy).Contents (Elt F)),
    binary main_v24 main_v25 main_v26 (Host.divf : (⟨S1024x1, .f32⟩ : BufTy).Contents (Elt F) → (⟨S1024x1, .f32⟩ : BufTy).Contents (Elt F) → (⟨S1024x1, .f32⟩ : BufTy).Contents (Elt F)),
    nullary main_cst_7 (constant S_ .f32 0x358637BD#32),
    unary main_cst_7 main_v27 (broadcastInDim S1024x1 ![] bcast_S_S1024x1 : (⟨S_, .f32⟩ : BufTy).Contents (Elt F) → (⟨S1024x1, .f32⟩ : BufTy).Contents (Elt F)),
    binary main_v26 main_v27 main_v28 (addf : (⟨S1024x1, .f32⟩ : BufTy).Contents (Elt F) → (⟨S1024x1, .f32⟩ : BufTy).Contents (Elt F) → (⟨S1024x1, .f32⟩ : BufTy).Contents (Elt F)),
    unary main_v28 main_v29 (Host.rsqrt : (⟨S1024x1, .f32⟩ : BufTy).Contents (Elt F) → (⟨S1024x1, .f32⟩ : BufTy).Contents (Elt F)),
    unary main_v29 main_v30 (broadcastInDim S1024x64 ![0, 1] bcast_S1024x1_S1024x64_0_1 : (⟨S1024x1, .f32⟩ : BufTy).Contents (Elt F) → (⟨S1024x64, .f32⟩ : BufTy).Contents (Elt F)),
    binary main_v21 main_v30 main_v31 (mulf : (⟨S1024x64, .f32⟩ : BufTy).Contents (Elt F) → (⟨S1024x64, .f32⟩ : BufTy).Contents (Elt F) → (⟨S1024x64, .f32⟩ : BufTy).Contents (Elt F)),
    nullary main_cst_8 (constant S_ .f32 0x3EB504F3#32),
    unary main_cst_8 main_v32 (broadcastInDim S1024x64 ![] bcast_S_S1024x64 : (⟨S_, .f32⟩ : BufTy).Contents (Elt F) → (⟨S1024x64, .f32⟩ : BufTy).Contents (Elt F)),
    binary main_v32 main_v31 main_v33 (mulf : (⟨S1024x64, .f32⟩ : BufTy).Contents (Elt F) → (⟨S1024x64, .f32⟩ : BufTy).Contents (Elt F) → (⟨S1024x64, .f32⟩ : BufTy).Contents (Elt F)),
    unary main_v33 main_v34 (broadcastInDim S1x1024x64 ![1, 2] bcast_S1024x64_S1x1024x64_1_2 : (⟨S1024x64, .f32⟩ : BufTy).Contents (Elt F) → (⟨S1x1024x64, .f32⟩ : BufTy).Contents (Elt F)),
    binary main_arg0 main_arg0 main_v35 (mulf : (⟨S8x8x1x512x64, .f32⟩ : BufTy).Contents (Elt F) → (⟨S8x8x1x512x64, .f32⟩ : BufTy).Contents (Elt F) → (⟨S8x8x1x512x64, .f32⟩ : BufTy).Contents (Elt F)),
    nullary main_cst_9 (constant S_ .f32 0x00000000#32),
    binary main_v35 main_cst_9 main_v36 ((fun x v => Host.reduceAdd x v reducesTo_S8x8x1x512x64_S8x8x1x512_d4 h_S_) : (⟨S8x8x1x512x64, .f32⟩ : BufTy).Contents (Elt F) → (⟨S_, .f32⟩ : BufTy).Contents (Elt F) → (⟨S8x8x1x512, .f32⟩ : BufTy).Contents (Elt F)),
    unary main_v36 main_v37 (broadcastInDim S8x8x1x512x1 ![0, 1, 2, 3] bcast_S8x8x1x512_S8x8x1x512x1_0_1_2_3 : (⟨S8x8x1x512, .f32⟩ : BufTy).Contents (Elt F) → (⟨S8x8x1x512x1, .f32⟩ : BufTy).Contents (Elt F)),
    binary main_v34 main_arg0 main_v38 ((fun l r => Host.dotGeneral dot_S1x1024x64_S8x8x1x512x64_S1x1024x8x8x512_2_4_1_013_0_2 none l r) : (⟨S1x1024x64, .f32⟩ : BufTy).Contents (Elt F) → (⟨S8x8x1x512x64, .f32⟩ : BufTy).Contents (Elt F) → (⟨S1x1024x8x8x512, .f32⟩ : BufTy).Contents (Elt F)),
    unary main_v38 main_v39 ((transpose S8x8x1x512x1024 [2, 3, 0, 4, 1] · transposes_S1x1024x8x8x512_S8x8x1x512x1024_2_3_0_4_1) : (⟨S1x1024x8x8x512, .f32⟩ : BufTy).Contents (Elt F) → (⟨S8x8x1x512x1024, .f32⟩ : BufTy).Contents (Elt F)),
    nullary main_cst_10 (constant S_ .f32 0x40000000#32),
    unary main_cst_10 main_v40 (broadcastInDim S8x8x1x512x1024 ![] bcast_S_S8x8x1x512x1024 : (⟨S_, .f32⟩ : BufTy).Contents (Elt F) → (⟨S8x8x1x512x1024, .f32⟩ : BufTy).Contents (Elt F)),
    binary main_v40 main_v39 main_v41 (mulf : (⟨S8x8x1x512x1024, .f32⟩ : BufTy).Contents (Elt F) → (⟨S8x8x1x512x1024, .f32⟩ : BufTy).Contents (Elt F) → (⟨S8x8x1x512x1024, .f32⟩ : BufTy).Contents (Elt F)),
    unary main_v37 main_v42 (broadcastInDim S8x8x1x512x1024 ![0, 1, 2, 3, 4] bcast_S8x8x1x512x1_S8x8x1x512x1024_0_1_2_3_4 : (⟨S8x8x1x512x1, .f32⟩ : BufTy).Contents (Elt F) → (⟨S8x8x1x512x1024, .f32⟩ : BufTy).Contents (Elt F)),
    binary main_v42 main_v41 main_v43 (subf : (⟨S8x8x1x512x1024, .f32⟩ : BufTy).Contents (Elt F) → (⟨S8x8x1x512x1024, .f32⟩ : BufTy).Contents (Elt F) → (⟨S8x8x1x512x1024, .f32⟩ : BufTy).Contents (Elt F)),
    binary main_v34 main_v34 main_v44 (mulf : (⟨S1x1024x64, .f32⟩ : BufTy).Contents (Elt F) → (⟨S1x1024x64, .f32⟩ : BufTy).Contents (Elt F) → (⟨S1x1024x64, .f32⟩ : BufTy).Contents (Elt F)),
    nullary main_cst_11 (constant S_ .f32 0x00000000#32),
    binary main_v44 main_cst_11 main_v45 ((fun x v => Host.reduceAdd x v reducesTo_S1x1024x64_S1x1024_d2 h_S_) : (⟨S1x1024x64, .f32⟩ : BufTy).Contents (Elt F) → (⟨S_, .f32⟩ : BufTy).Contents (Elt F) → (⟨S1x1024, .f32⟩ : BufTy).Contents (Elt F)),
    unary main_v45 main_v46 (broadcastInDim S1x1x1x1024 ![2, 3] bcast_S1x1024_S1x1x1x1024_2_3 : (⟨S1x1024, .f32⟩ : BufTy).Contents (Elt F) → (⟨S1x1x1x1024, .f32⟩ : BufTy).Contents (Elt F)),
    unary main_v46 main_v47 (broadcastInDim S1x1x1x1x1024 ![1, 2, 3, 4] bcast_S1x1x1x1024_S1x1x1x1x1024_1_2_3_4 : (⟨S1x1x1x1024, .f32⟩ : BufTy).Contents (Elt F) → (⟨S1x1x1x1x1024, .f32⟩ : BufTy).Contents (Elt F)),
    unary main_v47 main_v48 (broadcastInDim S8x8x1x512x1024 ![0, 1, 2, 3, 4] bcast_S1x1x1x1x1024_S8x8x1x512x1024_0_1_2_3_4 : (⟨S1x1x1x1x1024, .f32⟩ : BufTy).Contents (Elt F) → (⟨S8x8x1x512x1024, .f32⟩ : BufTy).Contents (Elt F)),
    binary main_v43 main_v48 main_v49 (addf : (⟨S8x8x1x512x1024, .f32⟩ : BufTy).Contents (Elt F) → (⟨S8x8x1x512x1024, .f32⟩ : BufTy).Contents (Elt F) → (⟨S8x8x1x512x1024, .f32⟩ : BufTy).Contents (Elt F)),
    nullary main_cst_12 (constant S_ .f32 0x7F800000#32),
    binary main_v49 main_cst_12 main_v50 ((fun x v => Host.reduce FloatOps.minimumf x v reducesTo_S8x8x1x512x1024_S8x8x1x512_d4 h_S_) : (⟨S8x8x1x512x1024, .f32⟩ : BufTy).Contents (Elt F) → (⟨S_, .f32⟩ : BufTy).Contents (Elt F) → (⟨S8x8x1x512, .f32⟩ : BufTy).Contents (Elt F)),
    TRef.nullary main_call0.v0 (iotaInDim S8x8x1x512x1024 32 4),
    TRef.nullary main_call0.cst (constant S_ .f32 0x7F800000#32),
    TRef.nullary main_call0.c (constantI S_ 32 0#32),
    TRef.quaternary (TRef.of (T := ⟨S8x8x1x512x1024, .f32⟩) main_v49) main_call0.v0 main_call0.cst main_call0.c main_call0.v1_0 (leastValue (F := F)),
    TRef.quaternary (TRef.of (T := ⟨S8x8x1x512x1024, .f32⟩) main_v49) main_call0.v0 main_call0.cst main_call0.c main_call0.v1_1 (leastIndex (F := F)),
    nullary main_v52 (iotaInDim S1 32 0),
    reshape main_v52 main_v53 (rfl : (.i32 : EltTy) = .i32) shapeCasts_S1_S1x1x1x1,
    nullary main_c (constantI S_ 32 0#32),
    unary main_c main_v54 (broadcastInDim S1x1x1x1 ![] bcast_S_S1x1x1x1 : (⟨S_, .i32⟩ : BufTy).Contents (Elt F) → (⟨S1x1x1x1, .i32⟩ : BufTy).Contents (Elt F)),
    binary main_v53 main_v54 main_v55 (cmpi .slt : (⟨S1x1x1x1, .i32⟩ : BufTy).Contents (Elt F) → (⟨S1x1x1x1, .i32⟩ : BufTy).Contents (Elt F) → (⟨S1x1x1x1, .i1⟩ : BufTy).Contents (Elt F)),
    nullary main_c_13 (constantI S_ 32 1#32),
    unary main_c_13 main_v56 (broadcastInDim S1x1x1x1 ![] bcast_S_S1x1x1x1 : (⟨S_, .i32⟩ : BufTy).Contents (Elt F) → (⟨S1x1x1x1, .i32⟩ : BufTy).Contents (Elt F)),
    binary main_v53 main_v56 main_v57 (addi : (⟨S1x1x1x1, .i32⟩ : BufTy).Contents (Elt F) → (⟨S1x1x1x1, .i32⟩ : BufTy).Contents (Elt F) → (⟨S1x1x1x1, .i32⟩ : BufTy).Contents (Elt F)),
    ternary main_v55 main_v57 main_v53 main_v58 (select : (⟨S1x1x1x1, .i1⟩ : BufTy).Contents (Elt F) → (⟨S1x1x1x1, .i32⟩ : BufTy).Contents (Elt F) → (⟨S1x1x1x1, .i32⟩ : BufTy).Contents (Elt F) → (⟨S1x1x1x1, .i32⟩ : BufTy).Contents (Elt F)),
    nullary main_c_14 (constantI S_ 32 0#32),
    unary main_c_14 main_v59 (broadcastInDim S8x8x1x512 ![] bcast_S_S8x8x1x512 : (⟨S_, .i32⟩ : BufTy).Contents (Elt F) → (⟨S8x8x1x512, .i32⟩ : BufTy).Contents (Elt F)),
    binary main_v51 main_v59 main_v60 (cmpi .slt : (⟨S8x8x1x512, .i32⟩ : BufTy).Contents (Elt F) → (⟨S8x8x1x512, .i32⟩ : BufTy).Contents (Elt F) → (⟨S8x8x1x512, .i1⟩ : BufTy).Contents (Elt F)),
    nullary main_c_15 (constantI S_ 32 1024#32),
    unary main_c_15 main_v61 (broadcastInDim S8x8x1x512 ![] bcast_S_S8x8x1x512 : (⟨S_, .i32⟩ : BufTy).Contents (Elt F) → (⟨S8x8x1x512, .i32⟩ : BufTy).Contents (Elt F)),
    binary main_v51 main_v61 main_v62 (addi : (⟨S8x8x1x512, .i32⟩ : BufTy).Contents (Elt F) → (⟨S8x8x1x512, .i32⟩ : BufTy).Contents (Elt F) → (⟨S8x8x1x512, .i32⟩ : BufTy).Contents (Elt F)),
    ternary main_v60 main_v62 main_v51 main_v63 (select : (⟨S8x8x1x512, .i1⟩ : BufTy).Contents (Elt F) → (⟨S8x8x1x512, .i32⟩ : BufTy).Contents (Elt F) → (⟨S8x8x1x512, .i32⟩ : BufTy).Contents (Elt F) → (⟨S8x8x1x512, .i32⟩ : BufTy).Contents (Elt F)),
    unary main_v58 main_v64 (broadcastInDim S8x8x1x512 ![0, 1, 2, 3] bcast_S1x1x1x1_S8x8x1x512_0_1_2_3 : (⟨S1x1x1x1, .i32⟩ : BufTy).Contents (Elt F) → (⟨S8x8x1x512, .i32⟩ : BufTy).Contents (Elt F)),
    unary main_v64 main_v65 (broadcastInDim S8x8x1x512x1 ![0, 1, 2, 3] bcast_S8x8x1x512_S8x8x1x512x1_0_1_2_3 : (⟨S8x8x1x512, .i32⟩ : BufTy).Contents (Elt F) → (⟨S8x8x1x512x1, .i32⟩ : BufTy).Contents (Elt F)),
    unary main_v63 main_v66 (broadcastInDim S8x8x1x512x1 ![0, 1, 2, 3] bcast_S8x8x1x512_S8x8x1x512x1_0_1_2_3 : (⟨S8x8x1x512, .i32⟩ : BufTy).Contents (Elt F) → (⟨S8x8x1x512x1, .i32⟩ : BufTy).Contents (Elt F)),
    binary main_v65 main_v66 main_v67 (joinIndices (F := F)),
    binary main_v34 main_v67 main_v68 ((fun x i => Host.gather gather_S1x1024x64_S8x8x1x512x2_S8x8x1x512x64_4_01_n_n_01_4_1164 x i) : (⟨S1x1024x64, .f32⟩ : BufTy).Contents (Elt F) → (⟨S8x8x1x512x2, .i32⟩ : BufTy).Contents (Elt F) → (⟨S8x8x1x512x64, .f32⟩ : BufTy).Contents (Elt F)),
    binary main_arg0 main_arg0 main_v69 (subf : (⟨S8x8x1x512x64, .f32⟩ : BufTy).Contents (Elt F) → (⟨S8x8x1x512x64, .f32⟩ : BufTy).Contents (Elt F) → (⟨S8x8x1x512x64, .f32⟩ : BufTy).Contents (Elt F)),
    binary main_v68 main_v69 main_v70 (addf : (⟨S8x8x1x512x64, .f32⟩ : BufTy).Contents (Elt F) → (⟨S8x8x1x512x64, .f32⟩ : BufTy).Contents (Elt F) → (⟨S8x8x1x512x64, .f32⟩ : BufTy).Contents (Elt F)),
    unary main_arg1 main_v71 (broadcastInDim S8x1x1x512 ![0, 2, 3] bcast_S8x1x512_S8x1x1x512_0_2_3 : (⟨S8x1x512, .f32⟩ : BufTy).Contents (Elt F) → (⟨S8x1x1x512, .f32⟩ : BufTy).Contents (Elt F)),
    unary main_v71 main_v72 (broadcastInDim S8x8x1x512 ![0, 1, 2, 3] bcast_S8x1x1x512_S8x8x1x512_0_1_2_3 : (⟨S8x1x1x512, .f32⟩ : BufTy).Contents (Elt F) → (⟨S8x8x1x512, .f32⟩ : BufTy).Contents (Elt F)),
    binary main_v72 main_v50 main_v73 (mulf : (⟨S8x8x1x512, .f32⟩ : BufTy).Contents (Elt F) → (⟨S8x8x1x512, .f32⟩ : BufTy).Contents (Elt F) → (⟨S8x8x1x512, .f32⟩ : BufTy).Contents (Elt F)),
    nullary main_cst_16 (constant S_ .f32 0x00000000#32),
    binary main_v73 main_cst_16 main_v74 ((fun x v => Host.reduceAdd x v reducesTo_S8x8x1x512_S8x1x512_d1 h_S_) : (⟨S8x8x1x512, .f32⟩ : BufTy).Contents (Elt F) → (⟨S_, .f32⟩ : BufTy).Contents (Elt F) → (⟨S8x1x512, .f32⟩ : BufTy).Contents (Elt F)),
    nullary main_cst_17 (constant S_ .f32 0x00000000#32),
    binary main_v74 main_cst_17 main_v75 ((fun x v => Host.reduceAdd x v reducesTo_S8x1x512_S_d0_1_2 h_S_) : (⟨S8x1x512, .f32⟩ : BufTy).Contents (Elt F) → (⟨S_, .f32⟩ : BufTy).Contents (Elt F) → (⟨S_, .f32⟩ : BufTy).Contents (Elt F)),
    nullary main_cst_18 (constant S_ .f32 0x45800000#32),
    binary main_v75 main_cst_18 main_v76 (Host.divf : (⟨S_, .f32⟩ : BufTy).Contents (Elt F) → (⟨S_, .f32⟩ : BufTy).Contents (Elt F) → (⟨S_, .f32⟩ : BufTy).Contents (Elt F)),
    nullary main_cst_19 (constant S_ .f32 0x00000000#32) ]

set_option maxRecDepth 8192 in
set_option maxHeartbeats 4000000 in
/-- The reference is that list, run in order. -/
theorem main_eq (c : Dev nD) : main (F := F) c = seq ops := rfl

/-- No buffer of the reference belongs to an inner scope. -/
theorem scopedRefs_eq : (Finset.univ.filter fun b : Ref sig .tc => b.isScoped) = ∅ := by decide

/-- No semaphore of the reference belongs to an inner scope. -/
theorem scopedSems_eq : (Finset.univ.filter fun sm : SemLoc sig => sm.isScoped .tc) = ∅ := by decide

set_option maxRecDepth 8192 in
/-- Every operation reads and writes the device's own buffers. -/
theorem ops_sub : (ops : List (HloOp τ sig (Elt F))).Forall fun op => op.bufs ⊆ tcRefs τ sig :=
  ⟨nullary_bufs_sub .., nullary_bufs_sub .., unary_bufs_sub .., binary_bufs_sub .., nullary_bufs_sub .., nullary_bufs_sub .., unary_bufs_sub ..,
    binary_bufs_sub .., nullary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., binary_bufs_sub .., unary_bufs_sub ..,
    unary_bufs_sub .., unary_bufs_sub .., unary_bufs_sub .., binary_bufs_sub .., unary_bufs_sub .., unary_bufs_sub .., binary_bufs_sub ..,
    binary_bufs_sub .., nullary_bufs_sub .., binary_bufs_sub .., unary_bufs_sub .., nullary_bufs_sub .., unary_bufs_sub .., binary_bufs_sub ..,
    nullary_bufs_sub .., unary_bufs_sub .., binary_bufs_sub .., unary_bufs_sub .., unary_bufs_sub .., binary_bufs_sub .., nullary_bufs_sub ..,
    unary_bufs_sub .., binary_bufs_sub .., unary_bufs_sub .., binary_bufs_sub .., nullary_bufs_sub .., binary_bufs_sub .., unary_bufs_sub ..,
    binary_bufs_sub .., unary_bufs_sub .., nullary_bufs_sub .., unary_bufs_sub .., binary_bufs_sub .., unary_bufs_sub .., binary_bufs_sub ..,
    binary_bufs_sub .., nullary_bufs_sub .., binary_bufs_sub .., unary_bufs_sub .., unary_bufs_sub .., unary_bufs_sub .., binary_bufs_sub ..,
    nullary_bufs_sub .., binary_bufs_sub .., nullary_bufs_sub .., nullary_bufs_sub .., nullary_bufs_sub .., quaternary_bufs_sub ..,
    quaternary_bufs_sub .., nullary_bufs_sub .., reshape_bufs_sub .., nullary_bufs_sub .., unary_bufs_sub .., binary_bufs_sub .., nullary_bufs_sub ..,
    unary_bufs_sub .., binary_bufs_sub .., ternary_bufs_sub .., nullary_bufs_sub .., unary_bufs_sub .., binary_bufs_sub .., nullary_bufs_sub ..,
    unary_bufs_sub .., binary_bufs_sub .., ternary_bufs_sub .., unary_bufs_sub .., unary_bufs_sub .., unary_bufs_sub .., binary_bufs_sub ..,
    binary_bufs_sub .., binary_bufs_sub .., binary_bufs_sub .., unary_bufs_sub .., unary_bufs_sub .., binary_bufs_sub .., nullary_bufs_sub ..,
    binary_bufs_sub .., nullary_bufs_sub .., binary_bufs_sub .., nullary_bufs_sub .., binary_bufs_sub .., nullary_bufs_sub ..⟩

/-- The angles of the codebook's waves: position times inverse wavelength. -/
def angles : (⟨S1024x32, .f32⟩ : BufTy).Contents (Elt F) :=
  mulf
    (broadcastInDim S1024x32 ![0, 1] bcast_S1024x1_S1024x32_0_1 (broadcastInDim S1024x1 ![0] bcast_S1024_S1024x1_0
      (addf (broadcastInDim S1024 ![] bcast_S_S1024 (constant S_ .f32 0x00000000#32)) (sitofp .f32 (iotaInDim S1024 32 0)))))
    (broadcastInDim S1024x32 ![0, 1] bcast_S1x32_S1024x32_0_1 (broadcastInDim S1x32 ![1] bcast_S32_S1x32_1
      (Host.divf (broadcastInDim S32 ![] bcast_S_S32 (constant S_ .f32 0x3F800000#32))
        (Host.powf (broadcastInDim S32 ![] bcast_S_S32 (constant S_ .f32 0x47C35000#32))
          (Host.divf
            (addf (broadcastInDim S32 ![] bcast_S_S32 (constant S_ .f32 0x00000000#32))
              (mulf (broadcastInDim S32 ![] bcast_S_S32 (constant S_ .f32 0x40000000#32)) (sitofp .f32 (iotaInDim S32 32 0))))
            (broadcastInDim S32 ![] bcast_S_S32 (constant S_ .f32 0x42800000#32)))))))

/-- The waves: sines of the angles, then their cosines. -/
def waves : (⟨S1024x64, .f32⟩ : BufTy).Contents (Elt F) :=
  joinHalves (Host.sin (angles (F := F))) (Host.cos (angles (F := F)))

/-- The waves with each row scaled to unit mean square. -/
def unitWaves : (⟨S1024x64, .f32⟩ : BufTy).Contents (Elt F) :=
  mulf (waves (F := F)) (broadcastInDim S1024x64 ![0, 1] bcast_S1024x1_S1024x64_0_1
    (Host.rsqrt (addf
      (Host.divf
        (broadcastInDim S1024x1 ![0] bcast_S1024_S1024x1_0
          (Host.reduceAdd (mulf (waves (F := F)) (waves (F := F))) (constant S_ .f32 0x00000000#32) reducesTo_S1024x64_S1024_d1 h_S_))
        (broadcastInDim S1024x1 ![] bcast_S_S1024x1 (constant S_ .f32 0x42800000#32)))
      (broadcastInDim S1024x1 ![] bcast_S_S1024x1 (constant S_ .f32 0x358637BD#32)))))

/-- The codebook, with its leading axis of heads. -/
def codes : (⟨S1x1024x64, .f32⟩ : BufTy).Contents (Elt F) :=
  broadcastInDim S1x1024x64 ![1, 2] bcast_S1024x64_S1x1024x64_1_2
    (mulf (broadcastInDim S1024x64 ![] bcast_S_S1024x64 (constant S_ .f32 0x3EB504F3#32)) (unitWaves (F := F)))

/-- The squared distances of every vector to every codeword, as the reference expands them. -/
def dists (x : (⟨S8x8x1x512x64, .f32⟩ : BufTy).Contents (Elt F)) : (⟨S8x8x1x512x1024, .f32⟩ : BufTy).Contents (Elt F) :=
  addf
    (subf
      (broadcastInDim S8x8x1x512x1024 ![0, 1, 2, 3, 4] bcast_S8x8x1x512x1_S8x8x1x512x1024_0_1_2_3_4
        (broadcastInDim S8x8x1x512x1 ![0, 1, 2, 3] bcast_S8x8x1x512_S8x8x1x512x1_0_1_2_3
          (Host.reduceAdd (mulf x x) (constant S_ .f32 0x00000000#32) reducesTo_S8x8x1x512x64_S8x8x1x512_d4 h_S_)))
      (mulf (broadcastInDim S8x8x1x512x1024 ![] bcast_S_S8x8x1x512x1024 (constant S_ .f32 0x40000000#32))
        (transpose S8x8x1x512x1024 [2, 3, 0, 4, 1]
          (Host.dotGeneral dot_S1x1024x64_S8x8x1x512x64_S1x1024x8x8x512_2_4_1_013_0_2 none (codes (F := F)) x)
          transposes_S1x1024x8x8x512_S8x8x1x512x1024_2_3_0_4_1)))
    (broadcastInDim S8x8x1x512x1024 ![0, 1, 2, 3, 4] bcast_S1x1x1x1x1024_S8x8x1x512x1024_0_1_2_3_4
      (broadcastInDim S1x1x1x1x1024 ![1, 2, 3, 4] bcast_S1x1x1x1024_S1x1x1x1x1024_1_2_3_4
        (broadcastInDim S1x1x1x1024 ![2, 3] bcast_S1x1024_S1x1x1x1024_2_3
          (Host.reduceAdd (mulf (codes (F := F)) (codes (F := F))) (constant S_ .f32 0x00000000#32) reducesTo_S1x1024x64_S1x1024_d2 h_S_))))

/-- Each vector's distance to its nearest codeword. -/
def errs (x : (⟨S8x8x1x512x64, .f32⟩ : BufTy).Contents (Elt F)) : (⟨S8x8x1x512, .f32⟩ : BufTy).Contents (Elt F) :=
  Host.reduce FloatOps.minimumf (dists x) (constant S_ .f32 0x7F800000#32) reducesTo_S8x8x1x512x1024_S8x8x1x512_d4 h_S_

/-- Each vector's shortcode: the first codeword at the smallest distance. -/
def shortcodes (x : (⟨S8x8x1x512x64, .f32⟩ : BufTy).Contents (Elt F)) : (⟨S8x8x1x512, .i32⟩ : BufTy).Contents (Elt F) :=
  leastIndex (dists x) (iotaInDim S8x8x1x512x1024 32 4) (constant S_ .f32 0x7F800000#32) (constantI S_ 32 0#32)

/-- The head of each vector, counted from the end where negative. -/
def headIndex : (⟨S1x1x1x1, .i32⟩ : BufTy).Contents (Elt F) :=
  select (cmpi .slt (shapeCast S1x1x1x1 (iotaInDim S1 32 0) shapeCasts_S1_S1x1x1x1) (broadcastInDim S1x1x1x1 ![] bcast_S_S1x1x1x1 (constantI S_ 32 0#32)))
    (addi (shapeCast S1x1x1x1 (iotaInDim S1 32 0) shapeCasts_S1_S1x1x1x1) (broadcastInDim S1x1x1x1 ![] bcast_S_S1x1x1x1 (constantI S_ 32 1#32)))
    (shapeCast S1x1x1x1 (iotaInDim S1 32 0) shapeCasts_S1_S1x1x1x1)

/-- A shortcode as a row of the codebook, counted from the end where negative. -/
def codeIndex (z : (⟨S8x8x1x512, .i32⟩ : BufTy).Contents (Elt F)) : (⟨S8x8x1x512, .i32⟩ : BufTy).Contents (Elt F) :=
  select (cmpi .slt z (broadcastInDim S8x8x1x512 ![] bcast_S_S8x8x1x512 (constantI S_ 32 0#32)))
    (addi z (broadcastInDim S8x8x1x512 ![] bcast_S_S8x8x1x512 (constantI S_ 32 1024#32))) z

/-- The codewords the shortcodes name. -/
def looked (z : (⟨S8x8x1x512, .i32⟩ : BufTy).Contents (Elt F)) : (⟨S8x8x1x512x64, .f32⟩ : BufTy).Contents (Elt F) :=
  Host.gather gather_S1x1024x64_S8x8x1x512x2_S8x8x1x512x64_4_01_n_n_01_4_1164 (codes (F := F))
    (joinIndices (F := F)
      (broadcastInDim S8x8x1x512x1 ![0, 1, 2, 3] bcast_S8x8x1x512_S8x8x1x512x1_0_1_2_3
        (broadcastInDim S8x8x1x512 ![0, 1, 2, 3] bcast_S1x1x1x1_S8x8x1x512_0_1_2_3 (headIndex (F := F))))
      (broadcastInDim S8x8x1x512x1 ![0, 1, 2, 3] bcast_S8x8x1x512_S8x8x1x512x1_0_1_2_3 (codeIndex (F := F) z)))

/-- The reconstructed vectors, with the straight-through term. -/
def hat (x : (⟨S8x8x1x512x64, .f32⟩ : BufTy).Contents (Elt F)) : (⟨S8x8x1x512x64, .f32⟩ : BufTy).Contents (Elt F) :=
  addf (looked (F := F) (shortcodes x)) (subf x x)

/-- The commitment loss of distances `e` under the mask `w`. -/
def commit (w : (⟨S8x1x512, .f32⟩ : BufTy).Contents (Elt F)) (e : (⟨S8x8x1x512, .f32⟩ : BufTy).Contents (Elt F)) : (⟨S_, .f32⟩ : BufTy).Contents (Elt F) :=
  Host.divf
    (Host.reduceAdd
      (Host.reduceAdd
        (mulf (broadcastInDim S8x8x1x512 ![0, 1, 2, 3] bcast_S8x1x1x512_S8x8x1x512_0_1_2_3
          (broadcastInDim S8x1x1x512 ![0, 2, 3] bcast_S8x1x512_S8x1x1x512_0_2_3 w)) e)
        (constant S_ .f32 0x00000000#32) reducesTo_S8x8x1x512_S8x1x512_d1 h_S_)
      (constant S_ .f32 0x00000000#32) reducesTo_S8x1x512_S_d0_1_2 h_S_)
    (constant S_ .f32 0x45800000#32)

set_option maxRecDepth 8192 in
set_option maxHeartbeats 40400000 in
/-- Every execution of the reference ends with each result at its named value and with the arguments unchanged. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v70) = hat (F := F) (m ((c.tc : Thread nD τ).loc main_arg0))
      ∧ r.2.mem ((c.tc : Thread nD τ).loc main_v51) = shortcodes (F := F) (m ((c.tc : Thread nD τ).loc main_arg0))
      ∧ r.2.mem ((c.tc : Thread nD τ).loc main_v76)
          = commit (F := F) (m ((c.tc : Thread nD τ).loc main_arg1)) (errs (F := F) (m ((c.tc : Thread nD τ).loc main_arg0)))
      ∧ r.2.mem ((c.tc : Thread nD τ).loc main_cst_19) = constant S_ .f32 0x00000000#32
      ∧ r.2.mem ((c.tc : Thread nD τ).loc main_v50) = errs (F := F) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨
      (h c main_v70).trans (by
        simp only [ops, main_call0, TRef.quaternary, TRef.nullary, TRef.toBuf, TRef.ofBuf, cast_eq]
        after_results_simp <;> rfl),
      (h c main_v51).trans (by
        simp only [ops, main_call0, TRef.quaternary, TRef.nullary, TRef.toBuf, TRef.ofBuf, cast_eq]
        after_results_simp <;> rfl),
      (h c main_v76).trans (by
        simp only [ops, main_call0, TRef.quaternary, TRef.nullary, TRef.toBuf, TRef.ofBuf, cast_eq]
        after_results_simp <;> rfl),
      (h c main_cst_19).trans (by
        simp only [ops, main_call0, TRef.quaternary, TRef.nullary, TRef.toBuf, TRef.ofBuf, cast_eq]
        after_results_simp <;> rfl),
      (h c main_v50).trans (by
        simp only [ops, main_call0, TRef.quaternary, TRef.nullary, TRef.toBuf, TRef.ofBuf, cast_eq]
        after_results_simp <;> rfl),
      (h c main_arg0).trans (by
        simp only [ops, main_call0, TRef.quaternary, TRef.nullary, TRef.toBuf, TRef.ofBuf, cast_eq]
        after_results_simp <;> rfl),
      (h c main_arg1).trans (by
        simp only [ops, main_call0, TRef.quaternary, TRef.nullary, TRef.toBuf, TRef.ofBuf, cast_eq]
        after_results_simp <;> rfl)⟩)
    (run_seq scopedRefs_eq scopedSems_eq defs main (fun _ => ops) main_eq (fun _ => ops_sub) m ρ)

end Cert.ReferenceIdeal.Hand

end
-- ==== Proof.Value.Finite.lean ====
/-
What the precondition says: every entry of the vectors is finite, so that an entry less itself is zero.
-/
module

public import proofs.«01_k».proof.Pre_finite
public import Idealize.ShloMosaic.Lib.ReduceAll
public import Idealize.ShloMosaic.Lib.IdealHost
public import Idealize.ShloMosaic.Lib.Pointwise.Select

@[expose] public section

noncomputable section

namespace Cert.Pre_finite.Hand

open Idealize.ShloMosaic Cert.Pre_finite

/-- The side conditions of the precondition's operations. -/
instance facts : Cert.Pre_finite.Facts := ⟨by decide, by decide, by decide⟩

/-- An extended real whose absolute value is below infinity is zero when taken from itself. -/
theorem sub_self_of_abs_lt (a : EReal) (h : max a (-a) < ⊤) : a - a = 0 := by
  rw [max_lt_iff] at h
  refine EReal.sub_self h.1.ne fun hb => ?_
  rw [hb, EReal.neg_bot] at h
  exact h.2.ne rfl

/-- Under the precondition an entry less itself is zero. -/
theorem sub_self (x : FVec Ideal S8x8x1x512x64 .f32) (w : FVec Ideal S8x1x512 .f32)
    (h : Cert.Pre_finite.fn (F := Ideal) x w = fun _ => 1#1) (i : S8x8x1x512x64.Idx) : x i - x i = (0 : EReal) := by
  have e := Host.reduce_andi_all _ _ _ _ (fun a => a.elim0) (congrFun h fun a => a.elim0) i
  have e' : Ideal.cmp .olt (max (x i) (-(x i))) (Ideal.ofBits .f32 0x7F800000#32) = 1 := e
  rw [show Ideal.ofBits .f32 0x7F800000#32 = (⊤ : EReal) by simp [Ideal.ofBits, Ideal.ieee], Ideal.cmp_olt_eq_one] at e'
  exact sub_self_of_abs_lt _ e'

end Cert.Pre_finite.Hand

end
-- ==== Proof.Value.HostArrays.lean ====
/-
The arrays the kernel's blocks read, and the values after the blocks.

Before its blocks run the kernel prepares, from constants alone, the codebook's transpose, the codebook's squared norms
and a table that holds beside each codeword the quotient and remainder of its position by four and a one; and, from the
vectors, their squared norms. This module names those values and states that they are what the blocks find.
-/
module

public import proofs.«01_k».proof.Proof.Frame.IdealRun
public import Idealize.ShloMosaic.Lib.StableHlo.Run

@[expose] public section

noncomputable section

namespace Cert.KernelIdeal.Hand

open Idealize.ShloMosaic Idealize.ShloMosaic.TcCoe Idealize.SL.Sem Cert.KernelIdeal Cert.KernelIdeal.Gen

variable {F : FTy → Type} [FloatOps F]

/-- Two halves of a table of 64 columns, side by side. -/
def joinHalves : (⟨S1024x32, .f32⟩ : BufTy).Contents (Elt F) → (⟨S1024x32, .f32⟩ : BufTy).Contents (Elt F) → (⟨S1024x64, .f32⟩ : BufTy).Contents (Elt F) :=
  fun a b => concatenate S1024x64 1 [⟨S1024x32, a⟩, ⟨S1024x32, b⟩] concatenates_S1024x32_S1024x32_S1024x64_d1

/-- The codewords' 64 columns and 8 more, side by side. -/
def joinTable : (⟨S1024x64, .bf16⟩ : BufTy).Contents (Elt F) → (⟨S1024x8, .bf16⟩ : BufTy).Contents (Elt F) → (⟨S1024x72, .bf16⟩ : BufTy).Contents (Elt F) :=
  fun a b => concatenate S1024x72 1 [⟨S1024x64, a⟩, ⟨S1024x8, b⟩] concatenates_S1024x64_S1024x8_S1024x72_d1

/-- Eight columns, side by side. -/
def joinColumns (u0 u1 u2 u3 u4 u5 u6 u7 : (⟨S1024x1, .f32⟩ : BufTy).Contents (Elt F)) : (⟨S1024x8, .f32⟩ : BufTy).Contents (Elt F) :=
  concatenate S1024x8 1 [⟨S1024x1, u0⟩, ⟨S1024x1, u1⟩, ⟨S1024x1, u2⟩, ⟨S1024x1, u3⟩, ⟨S1024x1, u4⟩, ⟨S1024x1, u5⟩, ⟨S1024x1, u6⟩, ⟨S1024x1, u7⟩]
    concatenates_S1024x1_S1024x1_S1024x1_S1024x1_S1024x1_S1024x1_S1024x1_S1024x1_S1024x8_d1

/-- One number in each of the 1024 places. -/
def everywhere (b : BitVec 32) : (⟨S1024, .f32⟩ : BufTy).Contents (Elt F) := broadcastInDim S1024 ![] bcast_S_S1024 (constant S_ .f32 b)

/-- One column. -/
def column (x : (⟨S1024, .f32⟩ : BufTy).Contents (Elt F)) : (⟨S1024x1, .f32⟩ : BufTy).Contents (Elt F) :=
  broadcastInDim S1024x1 ![0] bcast_S1024_S1024x1_0 x

/-- The positions 0, 1, … 1023 as numbers. -/
def positions : (⟨S1024, .f32⟩ : BufTy).Contents (Elt F) := sitofp .f32 (iotaInDim S1024 32 0)

/-- The waves' angles: positions times inverse wavelengths. -/
def angles : (⟨S1024x32, .f32⟩ : BufTy).Contents (Elt F) :=
  mulf (broadcastInDim S1024x32 ![0, 1] bcast_S1024x1_S1024x32_0_1 (column positions))
    (broadcastInDim S1024x32 ![0, 1] bcast_S1x32_S1024x32_0_1 (broadcastInDim S1x32 ![1] bcast_S32_S1x32_1
      (Host.divf (broadcastInDim S32 ![] bcast_S_S32 (constant S_ .f32 0x3F800000#32))
        (Host.powf (broadcastInDim S32 ![] bcast_S_S32 (constant S_ .f32 0x47C35000#32))
          (Host.divf (addf (broadcastInDim S32 ![] bcast_S_S32 (constant S_ .f32 0x00000000#32))
              (mulf (broadcastInDim S32 ![] bcast_S_S32 (constant S_ .f32 0x40000000#32)) (sitofp .f32 (iotaInDim S32 32 0))))
            (broadcastInDim S32 ![] bcast_S_S32 (constant S_ .f32 0x42800000#32)))))))

/-- The waves: sines beside cosines. -/
def waves : (⟨S1024x64, .f32⟩ : BufTy).Contents (Elt F) := joinHalves (Host.sin angles) (Host.cos angles)

/-- The waves, each row divided by its root mean square. -/
def unitWaves : (⟨S1024x64, .f32⟩ : BufTy).Contents (Elt F) :=
  mulf waves (broadcastInDim S1024x64 ![0, 1] bcast_S1024x1_S1024x64_0_1
    (Host.rsqrt (addf
      (Host.divf
        (broadcastInDim S1024x1 ![0] bcast_S1024_S1024x1_0
          (Host.reduceAdd (mulf waves waves) (constant S_ .f32 0x00000000#32) reducesTo_S1024x64_S1024_d1 h_S_))
        (broadcastInDim S1024x1 ![] bcast_S_S1024x1 (constant S_ .f32 0x42800000#32)))
      (broadcastInDim S1024x1 ![] bcast_S_S1024x1 (constant S_ .f32 0x358637BD#32)))))

/-- The codebook, with a leading axis of one. -/
def codes : (⟨S1x1024x64, .f32⟩ : BufTy).Contents (Elt F) :=
  mulf (broadcastInDim S1x1024x64 ![] bcast_S_S1x1024x64 (constant S_ .f32 0x3EB504F3#32))
    (broadcastInDim S1x1024x64 ![1, 2] bcast_S1024x64_S1x1024x64_1_2 unitWaves)

/-- The codebook. -/
def codeRows : (⟨S1024x64, .f32⟩ : BufTy).Contents (Elt F) := shapeCast S1024x64 codes shapeCasts_S1x1024x64_S1024x64

/-- The codebook's transpose. -/
def codeColumns : (⟨S64x1024, .f32⟩ : BufTy).Contents (Elt F) := transpose S64x1024 [1, 0] codeRows transposes_S1024x64_S64x1024_1_0

/-- The codewords' squared norms, in one row. -/
def codeNorms : (⟨S1x1024, .f32⟩ : BufTy).Contents (Elt F) :=
  broadcastInDim S1x1024 ![1] bcast_S1024_S1x1024_1
    (shapeCast S1024 (Host.reduceAdd (mulf codes codes) (constant S_ .f32 0x00000000#32) reducesTo_S1x1024x64_S1x1024_d2 h_S_)
      shapeCasts_S1x1024_S1024)

/-- The positions' quotients by four. -/
def quotients : (⟨S1024, .f32⟩ : BufTy).Contents (Elt F) := Host.floor (Host.divf positions (everywhere 0x40800000#32))

/-- The positions' remainders by four, before their sign is set. -/
def rests : (⟨S1024, .f32⟩ : BufTy).Contents (Elt F) := Host.remf positions (everywhere 0x40800000#32)

/-- The positions' remainders by four. -/
def remainders : (⟨S1024, .f32⟩ : BufTy).Contents (Elt F) :=
  select (andi (cmpi .ne (cmpf .olt (rests (F := F)) (everywhere 0x00000000#32))
      (broadcastInDim S1024 ![] bcast_S_S1024 (cmpf .olt (constant (F := F) S_ .f32 0x40800000#32) (constant S_ .f32 0x00000000#32))))
    (cmpf .une (rests (F := F)) (everywhere 0x00000000#32))) (addf (rests (F := F)) (everywhere 0x40800000#32)) (rests (F := F))

/-- The eight columns beside the codewords: quotient, remainder, one, and five of zeros. -/
def digits : (⟨S1024x8, .f32⟩ : BufTy).Contents (Elt F) :=
  joinColumns (column quotients) (column remainders) (column (everywhere 0x3F800000#32)) (column (everywhere 0x00000000#32))
    (column (everywhere 0x00000000#32)) (column (everywhere 0x00000000#32)) (column (everywhere 0x00000000#32)) (column (everywhere 0x00000000#32))

/-- The table the blocks choose from: codeword, quotient, remainder, one, zeros. -/
def table : (⟨S1024x72, .bf16⟩ : BufTy).Contents (Elt F) :=
  joinTable (truncf .bf16 codeRows bitsLt_bf16_f32) (truncf .bf16 digits bitsLt_bf16_f32)

/-- The vectors' squared norms. -/
def vecNorms (x : (⟨S8x8x1x512x64, .f32⟩ : BufTy).Contents (Elt F)) : (⟨S8x8x1x512x1, .f32⟩ : BufTy).Contents (Elt F) :=
  broadcastInDim S8x8x1x512x1 ![0, 1, 2, 3] bcast_S8x8x1x512_S8x8x1x512x1_0_1_2_3
    (Host.reduceAdd (mulf x x) (constant S_ .f32 0x00000000#32) reducesTo_S8x8x1x512x64_S8x8x1x512_d4 h_S_)

/-- The commitment loss from the mask and the least distances. -/
def commit (w : (⟨S8x1x512, .f32⟩ : BufTy).Contents (Elt F)) (e : (⟨S8x8x1x512, .f32⟩ : BufTy).Contents (Elt F)) :
    (⟨S_, .f32⟩ : BufTy).Contents (Elt F) :=
  Host.divf (Host.reduceAdd (Host.reduceAdd
      (mulf (broadcastInDim S8x8x1x512 ![0, 1, 2, 3] bcast_S8x1x1x512_S8x8x1x512_0_1_2_3 (broadcastInDim S8x1x1x512 ![0, 2, 3] bcast_S8x1x512_S8x1x1x512_0_2_3 w)) e)
      (constant S_ .f32 0x00000000#32) reducesTo_S8x8x1x512_S8x1x512_d1 h_S_)
    (constant S_ .f32 0x00000000#32) reducesTo_S8x1x512_S_d0_1_2 h_S_) (constant S_ .f32 0x45800000#32)

/-! ## What the blocks find -/

variable (m : (ℓ : Loc nD τ sig) → Buf (Elt F) ℓ) (c : Dev nD)

set_option maxRecDepth 8192
set_option maxHeartbeats 8000000

/-- The blocks find the codebook's transpose. -/
theorem V_codeColumns : V m c main_call0_v34 = codeColumns (F := F) := by
  simp only [V, V0, hostOps0, List.flatten_cons, List.flatten_nil, List.append_nil,
    StableHlo.TRef.nullary, StableHlo.TRef.unary, StableHlo.TRef.binary, StableHlo.TRef.ternary, StableHlo.TRef.reshape, StableHlo.TRef.nary,
    StableHlo.TRef.toBuf, StableHlo.TRef.ofBuf, cast_eq]
  after_results
  rfl

/-- The blocks find the codewords' squared norms. -/
theorem V_codeNorms : V m c main_call0_v38 = codeNorms (F := F) := by
  simp only [V, V0, hostOps0, List.flatten_cons, List.flatten_nil, List.append_nil,
    StableHlo.TRef.nullary, StableHlo.TRef.unary, StableHlo.TRef.binary, StableHlo.TRef.ternary, StableHlo.TRef.reshape, StableHlo.TRef.nary,
    StableHlo.TRef.toBuf, StableHlo.TRef.ofBuf, cast_eq]
  after_results
  rfl

/-- The blocks find the table. -/
theorem V_table : V m c main_call0_v57 = table (F := F) := by
  simp only [V, V0, hostOps0, List.flatten_cons, List.flatten_nil, List.append_nil,
    StableHlo.TRef.nullary, StableHlo.TRef.unary, StableHlo.TRef.binary, StableHlo.TRef.ternary, StableHlo.TRef.reshape, StableHlo.TRef.nary,
    StableHlo.TRef.toBuf, StableHlo.TRef.ofBuf, cast_eq]
  after_results
  rfl

/-- The blocks find the vectors' squared norms. -/
theorem V_vecNorms : V m c main_call0_v60 = vecNorms (F := F) (m ((c : Thread nD τ).loc main_arg0)) := by
  simp only [V, V0, hostOps0, List.flatten_cons, List.flatten_nil, List.append_nil,
    StableHlo.TRef.nullary, StableHlo.TRef.unary, StableHlo.TRef.binary, StableHlo.TRef.ternary, StableHlo.TRef.reshape, StableHlo.TRef.nary,
    StableHlo.TRef.toBuf, StableHlo.TRef.ofBuf, cast_eq]
  after_results
  rfl

end Cert.KernelIdeal.Hand

end
-- ==== Proof.Value.Nearest.lean ====
/-
The mathematics of the nearest entry of a row, over the extended reals.

A row of 1024 distances has a least value and a first position attaining it. Three ways to find them agree: the left
fold that keeps the better (value, position) pair, the minimum of the positions marked, and, where the least value is
attained once, the sum of the marks against a table.
-/
module

public import Idealize.ShloMosaic.PureOps.Ideal.Laws
public import Idealize.ShloMosaic.Lib.Pointwise.Select
public import Idealize.ShloMosaic.Lib.SortNet.Extract
public import Idealize.ShloMosaic.Lib.WordCmp

@[expose] public section

noncomputable section

namespace Cert.Nearest

open Idealize.ShloMosaic Idealize.ShloMosaic.SortNet

/-- A row of distances, one to each codeword. -/
abbrev Row := Fin 1024 → EReal

/-- The least distance of a row. -/
def least (d : Row) : EReal := (Finset.univ : Finset (Fin 1024)).fold min ⊤ d

/-- The least distance is below every distance. -/
theorem least_le (d : Row) (s : Fin 1024) : least d ≤ d s :=
  (Finset.fold_min_le _).2 (Or.inr ⟨s, Finset.mem_univ s, le_rfl⟩)

/-- A bound below every distance is below the least. -/
theorem le_least (d : Row) (b : EReal) (h : ∀ s, b ≤ d s) : b ≤ least d :=
  (Finset.le_fold_min _).2 ⟨le_top, fun s _ => h s⟩

/-- Some codeword is at the least distance. -/
theorem exists_least (d : Row) : ∃ s, d s = least d := by
  obtain ⟨s, -, hs⟩ := Finset.exists_min_image (Finset.univ : Finset (Fin 1024)) d ⟨0, Finset.mem_univ _⟩
  exact ⟨s, le_antisymm (le_least d _ fun t => hs t (Finset.mem_univ t)) (least_le d s)⟩

/-- The codewords at the least distance. -/
def nearest (d : Row) : Finset (Fin 1024) := Finset.univ.filter fun s => d s = least d

/-- There is one. -/
theorem nearest_nonempty (d : Row) : (nearest d).Nonempty := by
  obtain ⟨s, hs⟩ := exists_least d
  exact ⟨s, Finset.mem_filter.2 ⟨Finset.mem_univ s, hs⟩⟩

/-- The first codeword at the least distance. -/
def first (d : Row) : Fin 1024 := (nearest d).min' (nearest_nonempty d)

/-- The first nearest codeword is at the least distance. -/
theorem first_eq (d : Row) : d (first d) = least d :=
  (Finset.mem_filter.1 ((nearest d).min'_mem (nearest_nonempty d))).2

/-- No codeword at the least distance stands before it. -/
theorem first_le (d : Row) (s : Fin 1024) (h : d s = least d) : first d ≤ s :=
  (nearest d).min'_le s (Finset.mem_filter.2 ⟨Finset.mem_univ s, h⟩)

/-! ## The marks, and a table summed against them -/

/-- The mark of a codeword: one at the least distance, zero elsewhere. -/
def mark (d : Row) (s : Fin 1024) : EReal := if d s = least d then 1 else 0

/-- The marks sum to the number of nearest codewords. -/
theorem sum_mark (d : Row) : ∑ s, mark d s = ((nearest d).card : EReal) := by
  unfold mark nearest
  rw [Finset.sum_ite, Finset.sum_const_zero, add_zero, Finset.sum_const]
  simp

/-- Where the marks sum to no more than three halves, only the first nearest codeword is marked. -/
theorem mark_of_single (d : Row) (h : ∑ s, mark d s ≤ ((3 / 2 : ℝ) : EReal)) (s : Fin 1024) :
    mark d s = if s = first d then 1 else 0 := by
  have hc : (nearest d).card ≤ 1 := by
    rw [sum_mark] at h
    have h' : ((((nearest d).card : ℝ)) : EReal) ≤ ((3 / 2 : ℝ) : EReal) := by exact_mod_cast h
    have h'' : ((nearest d).card : ℝ) ≤ 3 / 2 := EReal.coe_le_coe_iff.1 h'
    by_contra hn
    have : (2 : ℝ) ≤ ((nearest d).card : ℝ) := by exact_mod_cast (by omega : 2 ≤ (nearest d).card)
    linarith
  have hf : first d ∈ nearest d := (nearest d).min'_mem (nearest_nonempty d)
  unfold mark
  by_cases hs : d s = least d
  · rw [if_pos hs, if_pos (Finset.card_le_one.1 hc s (Finset.mem_filter.2 ⟨Finset.mem_univ s, hs⟩) _ hf)]
  · rw [if_neg hs, if_neg fun e : s = first d => hs (e ▸ first_eq d)]

/-- A table summed against the mark of one entry is that entry. -/
theorem sum_single (j : Fin 1024) (f : Fin 1024 → EReal) : ∑ s, (if s = j then (1 : EReal) else 0) * f s = f j := by
  simp only [ite_mul, one_mul, zero_mul]
  rw [Finset.sum_ite_eq' Finset.univ j f, if_pos (Finset.mem_univ j)]

/-! ## The least marked position -/

/-- A position as a 32-bit word reads back as itself. -/
theorem toInt_word (s : Fin 1024) : (BitVec.ofNat 32 s.val).toInt = s.val := by
  have := s.isLt
  rw [BitVec.toInt_eq_toNat_cond, BitVec.toNat_ofNat, Nat.mod_eq_of_lt (by omega), if_pos (by omega)]

/-- The signed minimum of words is commutative. -/
instance : Std.Commutative (IntOp.minsi (w := 32)) :=
  ⟨fun a b => BitVec.eq_of_toInt_eq (by rw [toInt_minsi, toInt_minsi, min_comm])⟩

/-- The signed minimum of words is associative. -/
instance : Std.Associative (IntOp.minsi (w := 32)) :=
  ⟨fun a b c => BitVec.eq_of_toInt_eq (by simp only [toInt_minsi, min_assoc])⟩

/-- A fold of the signed minimum reads as the fold of the minimum of the readings. -/
theorem toInt_fold_minsi {ι : Type} [DecidableEq ι] (S : Finset ι) (z : BitVec 32) (f : ι → BitVec 32) :
    (S.fold IntOp.minsi z f).toInt = S.fold min z.toInt fun i => (f i).toInt := by
  induction S using Finset.induction_on with
  | empty => rfl
  | insert a S ha ih => rw [Finset.fold_insert ha, Finset.fold_insert ha, toInt_minsi, ih]

/-- The least of the marked positions, an unmarked one counting as 1024, is the first nearest codeword. -/
theorem fold_positions (d : Row) :
    (Finset.univ : Finset (Fin 1024)).fold IntOp.minsi 2147483647#32
        (fun s => if d s = least d then BitVec.ofNat 32 s.val else 1024#32) = BitVec.ofNat 32 (first d).val := by
  apply BitVec.eq_of_toInt_eq
  rw [toInt_fold_minsi, toInt_word]
  have hj := (first d).isLt
  apply le_antisymm
  · refine (Finset.fold_min_le _).2 (Or.inr ⟨first d, Finset.mem_univ _, ?_⟩)
    rw [if_pos (first_eq d), toInt_word]
  · refine (Finset.le_fold_min _).2 ⟨?_, fun s _ => ?_⟩
    · have : (2147483647#32).toInt = 2147483647 := by decide
      rw [this]; omega
    · split
      · next h => rw [toInt_word]; exact_mod_cast first_le d s h
      · have : (1024#32).toInt = 1024 := by decide
        rw [this]; omega

/-! ## The fold that keeps the better pair -/

/-- A (value, position) pair. -/
abbrev Pair := EReal × BitVec 32

/-- One pair is at least as good as another: a smaller value, or the same value no later. -/
def Better (p q : Pair) : Prop := p.1 < q.1 ∨ (p.1 = q.1 ∧ p.2.toInt ≤ q.2.toInt)

/-- A pair is as good as itself. -/
theorem Better.refl (p : Pair) : Better p p := Or.inr ⟨rfl, le_rfl⟩

/-- Being as good is transitive. -/
theorem Better.trans {p q r : Pair} (h : Better p q) (h' : Better q r) : Better p r := by
  rcases h with h | ⟨h, hi⟩ <;> rcases h' with h' | ⟨h', hi'⟩
  · exact Or.inl (h.trans h')
  · exact Or.inl (h' ▸ h)
  · exact Or.inl (h ▸ h')
  · exact Or.inr ⟨h.trans h', hi.trans hi'⟩

/-- A step that answers one of its two pairs, as good as both, folds to a pair of the list as good as all. -/
theorem foldl_better (f : Pair → Pair → Pair) (hm : ∀ p q, f p q = p ∨ f p q = q) (hl : ∀ p q, Better (f p q) p)
    (hr : ∀ p q, Better (f p q) q) :
    ∀ (l : List Pair) (z : Pair), l.foldl f z ∈ z :: l ∧ ∀ p ∈ z :: l, Better (l.foldl f z) p
  | [], z => ⟨List.mem_cons_self .., fun p hp => by
      rcases List.mem_cons.1 hp with rfl | h
      · exact Better.refl _
      · exact absurd h List.not_mem_nil⟩
  | q :: l, z => by
    obtain ⟨hin, hle⟩ := foldl_better f hm hl hr l (f z q)
    have hz := hle (f z q) (List.mem_cons_self ..)
    rw [List.foldl_cons]
    refine ⟨?_, fun p hp => ?_⟩
    · rcases List.mem_cons.1 hin with e | h
      · rw [e]
        rcases hm z q with e' | e' <;> rw [e'] <;> simp
      · exact List.mem_cons_of_mem _ (List.mem_cons_of_mem _ h)
    · rcases List.mem_cons.1 hp with rfl | hp
      · exact hz.trans (hl _ _)
      · rcases List.mem_cons.1 hp with rfl | hp
        · exact hz.trans (hr _ _)
        · exact hle p (List.mem_cons_of_mem _ hp)

/-- Over a list of a row's (distance, position) pairs, in any order, that fold from (+∞, 0) finds the least distance and
    the first position attaining it. -/
theorem foldl_row (f : Pair → Pair → Pair) (hm : ∀ p q, f p q = p ∨ f p q = q) (hl : ∀ p q, Better (f p q) p)
    (hr : ∀ p q, Better (f p q) q) (d : Row) (l : List Pair)
    (hs : ∀ s : Fin 1024, (d s, BitVec.ofNat 32 s.val) ∈ l) (ha : ∀ p ∈ l, ∃ s : Fin 1024, p = (d s, BitVec.ofNat 32 s.val)) :
    l.foldl f (⊤, 0#32) = (least d, BitVec.ofNat 32 (first d).val) := by
  obtain ⟨hin, hle⟩ := foldl_better f hm hl hr l (⊤, 0#32)
  generalize l.foldl f (⊤, 0#32) = w at hin hle
  have hle' : ∀ s : Fin 1024, Better w (d s, BitVec.ofNat 32 s.val) := fun s => hle _ (List.mem_cons_of_mem _ (hs s))
  obtain ⟨s, rfl⟩ : ∃ s : Fin 1024, w = (d s, BitVec.ofNat 32 s.val) := by
    rcases List.mem_cons.1 hin with rfl | h
    · refine ⟨0, ?_⟩
      have : d 0 = ⊤ := by
        rcases hle' 0 with h | ⟨h, -⟩
        · exact absurd h not_top_lt
        · exact h.symm
      rw [this]; rfl
    · exact ha w h
  have hd : d s = least d := le_antisymm
    (le_least d _ fun t => by rcases hle' t with h | ⟨h, -⟩; exacts [le_of_lt h, le_of_eq h]) (least_le d s)
  have hi : s = first d := by
    apply le_antisymm _ (first_le d s hd)
    rcases hle' (first d) with h | ⟨-, h⟩
    · exact absurd h (by rw [hd, first_eq d]; exact lt_irrefl _)
    · rw [toInt_word, toInt_word] at h
      exact_mod_cast h
  rw [hd, hi]

end Cert.Nearest

end
-- ==== Proof.Value.Block.lean ====
/-
What one block of the kernel computes, at the ideal values.

Row r of the block's 1024 x 1024 distances has a least value and a first position attaining it; the block leaves the
least value, that position and that codeword, whichever of its two ways of choosing it takes.
-/
module

public import proofs.«01_k».proof.Proof.Frame.IdealBody
public import proofs.«01_k».proof.Proof.Value.Nearest
public import Idealize.ShloMosaic.Lib.Pipeline.Value
public import Idealize.ShloMosaic.Lib.ValueIdx
public import Idealize.ShloMosaic.Lib.ValueLayout
public import Idealize.ShloMosaic.Lib.ValueLayoutCasts
public import Idealize.ShloMosaic.Lib.MatmulPlain

@[expose] public section

set_option maxRecDepth 16384

noncomputable section

namespace Cert.KernelIdeal.Hand

open Idealize.ShloMosaic hiding ix1 ix2 ix3 ix4 ix5
open Idealize.ShloMosaic.ValueIdx Cert.KernelIdeal.Gen Cert.Nearest

/-! ## The constants -/

/-- The pattern of plus infinity. -/
theorem ofBits_inf : Ideal.ofBits .f32 0x7F800000#32 = ⊤ := by simp [Ideal.ofBits, Ideal.ieee]

/-- The pattern of minus infinity. -/
theorem ofBits_ninf : Ideal.ofBits .f32 0xFF800000#32 = ⊥ := by simp [Ideal.ofBits, Ideal.ieee]

/-- The pattern of three halves. -/
theorem ofBits_threeHalves : Ideal.ofBits .f32 0x3FC00000#32 = ((3 / 2 : ℝ) : EReal) := by
  simp [Ideal.ofBits, Ideal.ieee]
  rw [← EReal.coe_mul]; norm_num

/-- The pattern of four. -/
theorem ofBits_four : Ideal.ofBits .f32 0x40800000#32 = ((4 : ℝ) : EReal) := by
  simp [Ideal.ofBits, Ideal.ieee]
  rw [← EReal.coe_mul]; norm_num

/-! ## Rows, and the shapes they pass through -/

/-- The row of vector `b` of group `a` among a block's 1024. -/
def rowOf (a : Fin 2) (b : Fin 512) : Fin 1024 := ⟨512 * a.val + b.val, by omega⟩

/-- A column of 1024 read as two groups of 512. -/
theorem cast_groups {α : Type} (x : S1024.Idx → α) (h : S1024.ShapeCasts S2x512) (h' : S2x512.ShapeCasts S1x2x1x512)
    (a : Fin 2) (b : Fin 512) :
    shapeCast S1x2x1x512 (shapeCast S2x512 x h) h' (ix4 0 a 0 b) = x (ix1 (rowOf a b)) := by
  rw [shapeCast_apply (shapeCast S2x512 x h) h' (ix4 0 a 0 b) (ix2 a b)
      (by rw [Shape.rowMajor_val_two, Shape.rowMajor_val_four]; show a.val * 512 + b.val = ((0 * 2 + a.val) * 1 + 0) * 512 + b.val; omega),
    shapeCast_apply x h (ix2 a b) (ix1 (rowOf a b))
      (by rw [Shape.rowMajor_val_two, Shape.rowMajor_val_one]; show 512 * a.val + b.val = a.val * 512 + b.val; omega)]

/-- A 1024 x 64 matrix read as two groups of 512 rows. -/
theorem cast_groups_rows {α : Type} (x : S1024x64.Idx → α) (h : S1024x64.ShapeCasts S2x512x64) (h' : S2x512x64.ShapeCasts S1x2x1x512x64)
    (a : Fin 2) (b : Fin 512) (k : Fin 64) :
    shapeCast S1x2x1x512x64 (shapeCast S2x512x64 x h) h' (ix5 0 a 0 b k) = x (ix2 (rowOf a b) k) := by
  rw [shapeCast_apply (shapeCast S2x512x64 x h) h' (ix5 0 a 0 b k) (ix3 a b k)
      (by rw [Shape.rowMajor_val_three, Shape.rowMajor_val_five]; show (a.val * 512 + b.val) * 64 + k.val = (((0 * 2 + a.val) * 1 + 0) * 512 + b.val) * 64 + k.val; omega),
    shapeCast_apply x h (ix3 a b k) (ix2 (rowOf a b) k)
      (by rw [Shape.rowMajor_val_three, Shape.rowMajor_val_two]; show (512 * a.val + b.val) * 64 + k.val = (a.val * 512 + b.val) * 64 + k.val; omega)]

/-- Two groups of 512 rows read as a 1024 x n matrix. -/
theorem cast_rows {α : Type} {n : ℕ} (x : (⟨5, ![1, 2, 1, 512, n]⟩ : Shape).Idx → α)
    (h : (⟨5, ![1, 2, 1, 512, n]⟩ : Shape).ShapeCasts ⟨3, ![2, 512, n]⟩)
    (h' : (⟨3, ![2, 512, n]⟩ : Shape).ShapeCasts ⟨2, ![1024, n]⟩) (a : Fin 2) (b : Fin 512) (k : Fin n) :
    shapeCast ⟨2, ![1024, n]⟩ (shapeCast ⟨3, ![2, 512, n]⟩ x h) h' (ix2 (rowOf a b) k) = x (ix5 0 a 0 b k) := by
  rw [shapeCast_apply (shapeCast ⟨3, ![2, 512, n]⟩ x h) h' (ix2 (rowOf a b) k) (ix3 a b k)
      (by
        rw [Shape.rowMajor_val_three, Shape.rowMajor_val_two]
        show (a.val * 512 + b.val) * n + k.val = (512 * a.val + b.val) * n + k.val
        rw [Nat.mul_comm a.val]),
    shapeCast_apply x h (ix3 a b k) (ix5 0 a 0 b k)
      (by
        rw [Shape.rowMajor_val_three, Shape.rowMajor_val_five]
        show (((0 * 2 + a.val) * 1 + 0) * 512 + b.val) * n + k.val = (a.val * 512 + b.val) * n + k.val
        simp)]

/-- A one-column matrix copied along every row's 1024 entries. -/
theorem bcast_one_column {α : Type} (x : S1024x1.Idx → α) (h : S1024x1.Broadcasts S1024x1024) (r s : Fin 1024) :
    broadcastTo S1024x1024 x h (ix2 r s) = x (ix2 r 0) :=
  broadcastTo_apply _ h (ix2 r s) (ix2 r 0) fun c => match c with | ⟨0, _⟩ => rfl | ⟨1, _⟩ => rfl

/-- A one-row matrix copied into each of 1024 rows. -/
theorem bcast_one_row {α : Type} (x : S1x1024.Idx → α) (h : S1x1024.Broadcasts S1024x1024) (r s : Fin 1024) :
    broadcastTo S1024x1024 x h (ix2 r s) = x (ix2 0 s) :=
  broadcastTo_apply _ h (ix2 r s) (ix2 0 s) fun c => match c with | ⟨0, _⟩ => rfl | ⟨1, _⟩ => rfl

/-- A column copied along every row's 1024 entries. -/
theorem bcast_column {α : Type} (x : S1024.Idx → α) (h : S1024.ShapeCasts S1024x1) (h' : S1024x1.Broadcasts S1024x1024)
    (r s : Fin 1024) : broadcastTo S1024x1024 (shapeCast S1024x1 x h) h' (ix2 r s) = x (ix1 r) := by
  rw [bcast_one_column]
  exact shapeCast_a_a1_apply x h r 0

/-- The index of row `r` with the reduced coordinate put in. -/
theorem lift_row (h : S1024x1024.Reduces [1] S1024) (r : Fin 1024) (s : Fin (S1024x1024.size 1)) :
    h.lift (ix1 r) s = ix2 (n0 := 1024) (n1 := 1024) r s := by
  funext c; apply Fin.ext; refine (h.lift_val _ _ _).trans ?_
  match c with
  | ⟨0, _⟩ => simp [Shape.Reduces.liftVal]
  | ⟨1, _⟩ => simp [Shape.Reduces.liftVal]

/-- The same for the one row of 1024. -/
theorem lift_one (h : S1x1024.Reduces [1] S1) (r : Fin (S1x1024.size 1)) : h.lift (ix1 0) r = ix2 (n0 := 1) (n1 := 1024) 0 r := by
  funext c; apply Fin.ext; refine (h.lift_val _ _ _).trans ?_
  match c with
  | ⟨0, _⟩ => simp [Shape.Reduces.liftVal]
  | ⟨1, _⟩ => simp [Shape.Reduces.liftVal]

/-! ## The distances and the marks -/

section Rows

variable (d : FVec Ideal S1024x1024 .f32)

/-- Row `r` of a block's distances. -/
def rowAt (r : Fin 1024) : Row := fun s => d (ix2 r s)

/-- The row minimum of the distances. -/
theorem rowMin_apply (h : S1024x1024.Reduces [1] S1024) (hφ : FKind.Formats .f32) (hacc : 0x7F800000#32 = FKind.minimumf.neutral .f32 hφ)
    (r : Fin 1024) :
    multiReduction .minimumf [1] S1024 d 0x7F800000#32 h hφ hacc (ix1 r) = least (rowAt d r) := by
  rw [multiReduction_minimumf_eq_fold, h.fold_filter_drop_single]
  show Finset.fold min (Ideal.ofBits .f32 0x7F800000#32) _ _ = _
  rw [ofBits_inf]
  refine congrArg (fun f => Finset.fold min ⊤ f Finset.univ) (funext fun s => ?_)
  exact congrArg d (lift_row h r s)

variable (e : FVec Ideal S1024 .f32) (he : ∀ r, e (ix1 r) = least (rowAt d r))
include he

/-- Whether an entry is its row's least: the comparison's bit. -/
theorem isLeast_apply (h : S1024.ShapeCasts S1024x1) (h' : S1024x1.Broadcasts S1024x1024) (r s : Fin 1024) :
    cmpf .oeq d (broadcastTo S1024x1024 (shapeCast S1024x1 e h) h') (ix2 r s) = if rowAt d r s = least (rowAt d r) then 1#1 else 0#1 := by
  rw [cmpf_apply, bcast_column, he]
  show BitVec.ofBool (decide _) = _
  by_cases hs : rowAt d r s = least (rowAt d r)
  · rw [if_pos hs]; have : d (ix2 r s) = least (rowAt d r) := hs; simp [this]
  · rw [if_neg hs]; have : ¬d (ix2 r s) = least (rowAt d r) := hs; simp [this]

/-- The least marked position of a row is its first nearest codeword. -/
theorem firstPosition_apply (r : Fin 1024) : k0_pay4 d e (ix1 r) = BitVec.ofNat 32 (first (rowAt d r)).val := by
  unfold k0_pay4
  refine (multiReductionI_eq_fold .minsi _ _ _ rfl _).trans ?_
  refine (Shape.Reduces.fold_filter_drop_single reduces_S1024x1024_S1024 IntOp.minsi _ _ _).trans ?_
  rw [← fold_positions (rowAt d r)]
  refine congrArg (fun f => Finset.fold IntOp.minsi 2147483647#32 f Finset.univ) (funext fun (s : Fin 1024) => (congrArg (select _ _ _) (lift_row _ r s)).trans ?_)
  rw [select_apply, isLeast_apply d e he, iota_single_apply, broadcast_apply]
  by_cases hs : rowAt d r s = least (rowAt d r)
  · rw [if_pos hs, if_pos hs, select_one]
  · rw [if_neg hs, if_neg hs, select_zero]

end Rows

/-- A bit as a float, read at the ideal values. -/
theorem bit_apply (b : IVec S1024x1024 1) (i : S1024x1024.Idx) (P : Prop) [Decidable P] (hb : b i = if P then 1#1 else 0#1) :
    truncf .bf16 (sitofp (F := Ideal) .f32 (extui 32 b natLt_1_32)) bitsLt_bf16_f32 i = if P then 1 else 0 := by
  show ((((b i).setWidth 32).toInt : ℝ) : EReal) = _
  rw [hb]
  by_cases hP : P
  · rw [if_pos hP, if_pos hP]; simp
  · rw [if_neg hP, if_neg hP]; simp

/-- The table summed against a 1024 x 1024 matrix, from zero. -/
theorem gather_apply (p : FVec Ideal S1024x1024 .bf16) (x3 : FVec Ideal S1024x72 .bf16) (h : S1024x72.ShapeCasts S1024x72)
    (r : Fin 1024) (c : Fin 72) :
    matmul dot_S1024x1024_S1024x72_S1024x72_1_0_0_1_n_n none p (shapeCast S1024x72 x3 h) (constant S1024x72 .f32 0x00000000#32) (ix2 r c)
      = ∑ s : Fin 1024, p (ix2 r s) * x3 (ix2 s c) := by
  rw [shapeCast_self]
  refine (Ideal.matmul_plain_apply (M := 1024) (K := 1024) (N := 72) none p x3 (constant S1024x72 .f32 0x00000000#32) r c).trans ?_
  show Ideal.ofBits .f32 0x00000000#32 + _ = _
  rw [Ideal.ofBits_zero_f32, zero_add]

/-- A column of a 1024 x 72 product. -/
theorem column_apply (p : FVec Ideal S1024x72 .f32) (o : ℕ) (h : S1024x72.Slices ![0, o] S1024x1) (h' : S1024x1.ShapeCasts S1024)
    (c : Fin 72) (hc : c.val = o) (r : Fin 1024) :
    shapeCast S1024 (extractStridedSlice S1024x1 ![0, o] p h) h' (ix1 r) = p (ix2 r c) := by
  rw [shapeCast_apply _ h' (ix1 r) (ix2 r 0)
    (by rw [Shape.rowMajor_val_two, Shape.rowMajor_val_one]; show r.val * 1 + 0 = r.val; omega)]
  exact slice2_axis1_apply o p h r 0 c (by rw [hc]; rfl)

/-- The largest entry of the product's column 66. -/
theorem largest_apply (p : FVec Ideal S1024x72 .f32) :
    k0_pay3 (F := Ideal) p = (Finset.univ : Finset (Fin 1024)).fold max ⊥ fun r => p (ix2 r 66) := by
  unfold k0_pay3
  refine (shapeCast_apply _ shapeCasts_S1_S1x1 _ (ix1 0) ?_).trans ?_
  · rw [Shape.rowMajor_val_two, Shape.rowMajor_val_one]; rfl
  refine (Ideal.multiReduction_maximumf_single _ _ reduces_S1x1024_S1 _ _ _).trans ?_
  show Finset.fold max (Ideal.ofBits .f32 0xFF800000#32) _ _ = _
  rw [ofBits_ninf]
  refine congrArg (fun f => Finset.fold max ⊥ f Finset.univ) (funext fun (r : Fin 1024) =>
    (congrArg (shapeCast S1x1024 _ _) (lift_one _ r)).trans ?_)
  rw [shapeCast_apply _ shapeCasts_S1024_S1x1024 (ix2 0 r) (ix1 r)
    (by rw [Shape.rowMajor_val_two, Shape.rowMajor_val_one]; show r.val = 0 * 1024 + r.val; omega)]
  exact column_apply p 66 _ _ 66 rfl r

/-- The first 64 columns of a product, read as two groups of 512 rows. -/
theorem head_apply (p : FVec Ideal S1024x72 .f32) (h : S1024x72.Slices ![0, 0] S1024x64) (h' : S1024x64.ShapeCasts S2x512x64)
    (h'' : S2x512x64.ShapeCasts S1x2x1x512x64) (a : Fin 2) (b : Fin 512) (k : Fin 64) :
    shapeCast S1x2x1x512x64 (shapeCast S2x512x64 (extractStridedSlice S1024x64 ![0, 0] p h) h') h'' (ix5 0 a 0 b k)
      = p (ix2 (rowOf a b) (k.castLE (by omega))) := by
  rw [cast_groups_rows]
  exact slice2_axis1_apply 0 p h _ k _ (by simp)

/-- Four times the quotient by four plus the remainder, taken to a word, is the number itself. -/
theorem fptosi_join (n : ℕ) (hn : n < 1024) :
    Ideal.fptosi 32 (((4 : ℝ) : EReal) * (((n / 4 : ℕ) : ℝ) : EReal) + (((n % 4 : ℕ) : ℝ) : EReal)) = BitVec.ofNat 32 n := by
  have e : ((4 : ℝ) : EReal) * (((n / 4 : ℕ) : ℝ) : EReal) + (((n % 4 : ℕ) : ℝ) : EReal) = (((n : ℤ) : ℝ) : EReal) := by
    rw [← EReal.coe_mul, ← EReal.coe_add]
    have : 4 * (n / 4) + n % 4 = n := Nat.div_add_mod n 4
    have h : (4 : ℝ) * ((n / 4 : ℕ) : ℝ) + ((n % 4 : ℕ) : ℝ) = ((n : ℤ) : ℝ) := by
      rw [Int.cast_natCast, ← Nat.cast_ofNat, ← Nat.cast_mul, ← Nat.cast_add, this]
    rw [h]
  rw [e, Ideal.fptosi, Ideal.toIntClamped_coe, if_pos (by positivity), Int.floor_intCast]
  have : max (-((2 ^ (32 - 1) : ℕ) : ℤ)) (min (((2 ^ (32 - 1) : ℕ) : ℤ) - 1) (n : ℤ)) = n := by norm_num; omega
  rw [this, BitVec.ofInt_natCast]

/-! ## The block's three results, from its distances and its table -/

section Results

variable (x0 : FVec Ideal S1x2x1x512x64 .f32) (x1 : FVec Ideal S1x2x1x512x1 .f32) (x2 : FVec Ideal S64x1024 .f32)
  (x3 : FVec Ideal S1024x72 .bf16) (x4 : FVec Ideal S1x1024 .f32)

/-- Row `r` of the block's distances. -/
def blockRow (r : Fin 1024) : Row := rowAt (k0_pay7 (F := Ideal) x0 x2 x1 x4) r

/-- The row minima the block finds. -/
theorem minima_apply (r : Fin 1024) : k0_pay8 (F := Ideal) x0 x2 x1 x4 (ix1 r) = least (blockRow x0 x1 x2 x4 r) :=
  rowMin_apply (k0_pay7 (F := Ideal) x0 x2 x1 x4) reduces_S1024x1024_S1024 (.inl rfl) rfl r

/-- The least distances the block leaves. -/
theorem errOf_apply (a : Fin 2) (b : Fin 512) :
    k0_pay9 (F := Ideal) x0 x2 x1 x4 (ix4 0 a 0 b) = least (blockRow x0 x1 x2 x4 (rowOf a b)) :=
  (cast_groups (k0_pay8 (F := Ideal) x0 x2 x1 x4) _ _ a b).trans (minima_apply x0 x1 x2 x4 _)

/-- The table summed against the marks of a row. -/
theorem marked_apply (r : Fin 1024) (c : Fin 72) :
    k0_pay10 (F := Ideal) x0 x2 x1 x4 x3 (ix2 r c) = ∑ s : Fin 1024, mark (blockRow x0 x1 x2 x4 r) s * x3 (ix2 s c) := by
  unfold k0_pay10
  refine (gather_apply _ x3 _ r c).trans (Finset.sum_congr rfl fun s _ => congrArg (· * x3 (ix2 s c)) ?_)
  exact bit_apply _ _ _ (isLeast_apply _ _ (minima_apply x0 x1 x2 x4) _ _ r s)

/-- Where the block sees no tie, every row has one codeword at its least distance: the table summed against the
    row's marks is that codeword's line. -/
theorem marked_of_not_tied (h66 : ∀ s, x3 (ix2 s 66) = 1) (hT : ¬Tied (F := Ideal) x0 x1 x2 x3 x4) (r : Fin 1024) (c : Fin 72) :
    k0_pay10 (F := Ideal) x0 x2 x1 x4 x3 (ix2 r c) = x3 (ix2 (first (blockRow x0 x1 x2 x4 r)) c) := by
  have hle : k0_pay3 (F := Ideal) (k0_pay10 (F := Ideal) x0 x2 x1 x4 x3) ≤ ((3 / 2 : ℝ) : EReal) := by
    by_contra hn
    apply hT
    have hb : Scalar.cmpf (F := Ideal) .ogt (k0_pay3 (F := Ideal) (k0_pay10 (F := Ideal) x0 x2 x1 x4 x3)) (Scalar.ofBits .f32 0x3FC00000#32) = 1#1 := by
      show BitVec.ofBool (decide (Ideal.ofBits .f32 0x3FC00000#32 < _)) = 1#1
      rw [decide_eq_true (lt_of_eq_of_lt ofBits_threeHalves (not_le.1 hn))]; rfl
    unfold Tied
    rw [hb]; rfl
  rw [largest_apply] at hle
  have hr := ((Finset.fold_max_le _).1 hle).2 r (Finset.mem_univ r)
  rw [marked_apply] at hr
  have hs : ∑ s, mark (blockRow x0 x1 x2 x4 r) s ≤ ((3 / 2 : ℝ) : EReal) :=
    le_of_eq_of_le (Finset.sum_congr rfl fun s _ => by rw [h66, mul_one]) hr
  rw [marked_apply, Finset.sum_congr rfl fun s _ => by rw [mark_of_single _ hs s]]
  exact sum_single _ fun s => x3 (ix2 s c)

/-- The codewords the block leaves: each row's first nearest. -/
theorem hatOf_apply (h66 : ∀ s, x3 (ix2 s 66) = 1) (a : Fin 2) (b : Fin 512) (k : Fin 64) :
    hatOf (F := Ideal) x0 x1 x2 x3 x4 (ix5 0 a 0 b k)
      = x3 (ix2 (first (blockRow x0 x1 x2 x4 (rowOf a b))) (k.castLE (by omega))) := by
  unfold hatOf
  split
  · unfold k0_pay5
    rw [head_apply, gather_apply]
    rw [← sum_single (first (blockRow x0 x1 x2 x4 (rowOf a b))) fun s => x3 (ix2 s (k.castLE (by omega)))]
    refine Finset.sum_congr rfl fun s _ => congrArg (· * x3 (ix2 s _)) (bit_apply _ _ _ ?_)
    show IntOp.cmpi .eq _ _ = _
    rw [iota_single_apply, bcast_column, firstPosition_apply _ _ (minima_apply x0 x1 x2 x4)]
    show IntOp.cmpi .eq (BitVec.ofNat 32 s.val) _ = _
    rw [WordCmp.cmpi_eq_ofNat (by omega) (by omega)]
    show BitVec.ofBool (decide (s.val = (first (blockRow x0 x1 x2 x4 (rowOf a b))).val)) = _
    by_cases hs : s = first (blockRow x0 x1 x2 x4 (rowOf a b))
    · rw [if_pos hs, decide_eq_true (congrArg Fin.val hs)]; rfl
    · rw [if_neg hs, decide_eq_false fun e => hs (Fin.ext e)]; rfl
  · next hT =>
    unfold k0_pay1 k0_pay11
    rw [head_apply, marked_of_not_tied _ _ _ _ _ h66 hT]

/-- The codewords' numbers the block leaves: each row's first nearest. -/
theorem zOf_apply (h64 : ∀ s : Fin 1024, x3 (ix2 s 64) = (((s.val / 4 : ℕ) : ℝ) : EReal))
    (h65 : ∀ s : Fin 1024, x3 (ix2 s 65) = (((s.val % 4 : ℕ) : ℝ) : EReal)) (h66 : ∀ s, x3 (ix2 s 66) = 1) (a : Fin 2) (b : Fin 512) :
    zOf (F := Ideal) x0 x1 x2 x3 x4 (ix4 0 a 0 b) = BitVec.ofNat 32 (first (blockRow x0 x1 x2 x4 (rowOf a b))).val := by
  unfold zOf
  split
  · unfold k0_pay6
    rw [cast_groups]
    exact firstPosition_apply _ _ (minima_apply x0 x1 x2 x4) _
  · next hT =>
    unfold k0_pay2
    rw [cast_groups]
    show Ideal.fptosi 32 (Ideal.ofBits .f32 0x40800000#32 * shapeCast S1024 _ _ (ix1 (rowOf a b)) + shapeCast S1024 _ _ (ix1 (rowOf a b))) = _
    rw [column_apply _ 64 _ _ 64 rfl, column_apply _ 65 _ _ 65 rfl, marked_of_not_tied _ _ _ _ _ h66 hT,
      marked_of_not_tied _ _ _ _ _ h66 hT, h64, h65, ofBits_four]
    exact fptosi_join _ (first _).isLt

/-- An entry of the block's distances. -/
theorem blockRow_apply (a : Fin 2) (b : Fin 512) (s : Fin 1024) :
    blockRow x0 x1 x2 x4 (rowOf a b) s
      = x1 (ix5 0 a 0 b 0) - Ideal.ofBits .f32 0x40000000#32 * (∑ k : Fin 64, x0 (ix5 0 a 0 b k) * x2 (ix2 k s)) + x4 (ix2 0 s) := by
  unfold blockRow rowAt k0_pay7
  show (broadcastTo S1024x1024 _ _ (ix2 (rowOf a b) s) - Ideal.ofBits .f32 0x40000000#32 * matmul (F := Ideal) _ _ _ _ _ (ix2 (rowOf a b) s) : EReal)
    + broadcastTo S1024x1024 _ _ (ix2 (rowOf a b) s) = _
  rw [bcast_one_column, bcast_one_row, shapeCast_self, shapeCast_self]
  refine congrArg₂ (· + ·) (congrArg₂ (· - ·) (cast_rows x1 _ _ a b 0) (congrArg (Ideal.ofBits .f32 0x40000000#32 * ·) ?_)) rfl
  refine (Ideal.matmul_plain_apply (M := 1024) (K := 64) (N := 1024) none _ x2 (constant S1024x1024 .f32 0x00000000#32) (rowOf a b) s).trans ?_
  show Ideal.ofBits .f32 0x00000000#32 + _ = _
  rw [Ideal.ofBits_zero_f32, zero_add]
  exact Finset.sum_congr rfl fun k _ => congrArg (· * x2 (ix2 k s)) (cast_rows x0 _ _ a b k)

end Results

end Cert.KernelIdeal.Hand

end
-- ==== Proof.Value.Tables.lean ====
/-
The kernel's prepared arrays read at an index, at the ideal values.

The kernel's codebook is the reference's; the table holds codeword s in line s, and beside it the quotient and the
remainder of s by four and a one.
-/
module

public import proofs.«01_k».proof.Proof.Value.HostArrays
public import proofs.«01_k».proof.Proof.Value.Block
public import proofs.«01_k».proof.Proof.Reference.Run
public import Idealize.ShloMosaic.Lib.IdealHost

@[expose] public section

set_option maxRecDepth 16384

noncomputable section

namespace Cert.KernelIdeal.Hand

open Idealize.ShloMosaic hiding ix1 ix2 ix3 ix4 ix5
open Idealize.ShloMosaic.ValueIdx Cert.KernelIdeal.Gen Cert.Nearest

/-! ## The codebook is the reference's -/

/-- The reference counts its positions from zero by an addition, which changes nothing. -/
theorem from_zero : addf (F := Ideal) (φ := .f32) (everywhere (F := Ideal) 0x00000000#32) (positions (F := Ideal)) = positions (F := Ideal) := by
  funext j
  show Ideal.ofBits .f32 0x00000000#32 + positions (F := Ideal) j = _
  rw [Ideal.ofBits_zero_f32, zero_add]

/-- The angles agree. -/
theorem angles_eq : Cert.ReferenceIdeal.Hand.angles (F := Ideal) = angles (F := Ideal) := by
  unfold angles
  rw [← from_zero]
  rfl

/-- The waves agree. -/
theorem waves_eq : Cert.ReferenceIdeal.Hand.waves (F := Ideal) = waves (F := Ideal) := by
  unfold Cert.ReferenceIdeal.Hand.waves waves
  rw [angles_eq]
  rfl

/-- The waves over their root mean squares agree. -/
theorem unitWaves_eq : Cert.ReferenceIdeal.Hand.unitWaves (F := Ideal) = unitWaves (F := Ideal) := by
  unfold Cert.ReferenceIdeal.Hand.unitWaves unitWaves
  rw [waves_eq]

/-- The codebooks agree. -/
theorem codes_eq : Cert.ReferenceIdeal.Hand.codes (F := Ideal) = codes (F := Ideal) := by
  unfold Cert.ReferenceIdeal.Hand.codes codes
  rw [unitWaves_eq]
  rfl

/-! ## The codebook's transpose, and the norms -/

/-- Codeword `s` in the codebook without its leading axis. -/
theorem codeRows_apply (s : Fin 1024) (k : Fin 64) : codeRows (F := Ideal) (ix2 s k) = codes (F := Ideal) (ix3 0 s k) :=
  shapeCast_1ab_ab_apply _ _ s k

/-- Codeword `s` in the transpose. -/
theorem codeColumns_apply (k : Fin 64) (s : Fin 1024) : codeColumns (F := Ideal) (ix2 k s) = codes (F := Ideal) (ix3 0 s k) := by
  refine (transpose_ix2_apply (codeRows (F := Ideal)) transposes_S1024x64_S64x1024_1_0 k s).trans ?_
  exact codeRows_apply s k

/-- The squared norm of codeword `s`. -/
theorem codeNorms_apply (s : Fin 1024) :
    codeNorms (F := Ideal) (ix2 0 s)
      = Host.reduceAdd (F := Ideal) (mulf (codes (F := Ideal)) (codes (F := Ideal))) (constant S_ .f32 0x00000000#32) reducesTo_S1x1024x64_S1x1024_d2 h_S_ (ix2 0 s) := by
  unfold codeNorms
  rw [broadcastInDim_apply (![1] : Fin 1 → Fin 2) _ _ (ix2 0 s) (ix1 s) (fun a => match a with | ⟨0, _⟩ => rfl)]
  exact shapeCast_apply _ _ (ix1 s) (ix2 0 s)
    (by rw [Shape.rowMajor_val_two, Shape.rowMajor_val_one]; show 0 * 1024 + s.val = s.val; omega)

/-- The squared norm of vector `q` of group `b` in row `t`. -/
theorem vecNorms_apply (x : FVec Ideal S8x8x1x512x64 .f32) (t b : Fin 8) (q : Fin 512) :
    vecNorms (F := Ideal) x (ix5 t b 0 q 0)
      = Host.reduceAdd (F := Ideal) (mulf x x) (constant S_ .f32 0x00000000#32) reducesTo_S8x8x1x512x64_S8x8x1x512_d4 h_S_ (ix4 t b 0 q) := by
  unfold vecNorms
  exact broadcastInDim_apply (s := S8x8x1x512) (t := S8x8x1x512x1) ![0, 1, 2, 3] _ _ (ix5 t b 0 q 0) (ix4 t b 0 q)
    (fun a => match a with | ⟨0, _⟩ => rfl | ⟨1, _⟩ => rfl | ⟨2, _⟩ => rfl | ⟨3, _⟩ => rfl)

/-! ## The table -/

/-- A position as a number. -/
theorem positions_apply (s : Fin 1024) : positions (F := Ideal) (ix1 s) = ((s.val : ℝ) : EReal) := by
  show ((((iotaInDim S1024 32 0 (ix1 s)).toInt : ℤ) : ℝ) : EReal) = _
  have : (iotaInDim S1024 32 0 (ix1 s)).toInt = (s.val : ℤ) := toInt_word s
  rw [this, Int.cast_natCast]

/-- A position over four, rounded down. -/
theorem floor_quarter (n : ℕ) : ⌊(n : ℝ) / 4⌋ = ((n / 4 : ℕ) : ℤ) := by
  have h := Int.floor_div_natCast (n : ℝ) 4
  rw [Int.floor_natCast, Nat.cast_ofNat] at h
  rw [h]; rfl

/-- A position's quotient by four. -/
theorem quotients_apply (s : Fin 1024) : quotients (F := Ideal) (ix1 s) = (((s.val / 4 : ℕ) : ℝ) : EReal) := by
  show Ideal.liftRound Int.floor (Ideal.div (positions (F := Ideal) (ix1 s)) (Ideal.ofBits .f32 0x40800000#32)) = _
  rw [positions_apply, ofBits_four, Ideal.div_coe (by norm_num), ← EReal.coe_mul, Ideal.liftRound_coe, mul_one_div, floor_quarter,
    Int.cast_natCast]

/-- A position's remainder by four, before its sign is set. -/
theorem rests_apply (s : Fin 1024) : rests (F := Ideal) (ix1 s) = (((s.val % 4 : ℕ) : ℝ) : EReal) := by
  show Ideal.remf (positions (F := Ideal) (ix1 s)) (Ideal.ofBits .f32 0x40800000#32) = _
  rw [positions_apply, ofBits_four, Ideal.remf_coe, if_neg (by norm_num), Ideal.truncInt, if_pos (by positivity), floor_quarter,
    Int.cast_natCast]
  refine congrArg _ ?_
  have h : (s.val : ℝ) = ((4 * (s.val / 4) + s.val % 4 : ℕ) : ℝ) := by rw [Nat.div_add_mod]
  rw [Nat.cast_add, Nat.cast_mul, Nat.cast_ofNat] at h
  linarith

/-- A position's remainder by four: no remainder is negative, so none is moved. -/
theorem remainders_apply (s : Fin 1024) : remainders (F := Ideal) (ix1 s) = (((s.val % 4 : ℕ) : ℝ) : EReal) := by
  have h0 : cmpf (F := Ideal) (φ := .f32) .olt (rests (F := Ideal)) (everywhere (F := Ideal) 0x00000000#32) (ix1 s) = 0#1 := by
    show BitVec.ofBool (decide (rests (F := Ideal) (ix1 s) < Ideal.ofBits .f32 0x00000000#32)) = 0#1
    rw [rests_apply, Ideal.ofBits_zero_f32, decide_eq_false (not_lt.2 (EReal.coe_nonneg.2 (Nat.cast_nonneg _)))]; rfl
  have h4 : broadcastInDim S1024 ![] bcast_S_S1024 (cmpf (F := Ideal) (φ := .f32) .olt (constant S_ .f32 0x40800000#32) (constant S_ .f32 0x00000000#32)) (ix1 s)
      = 0#1 := by
    show BitVec.ofBool (decide (Ideal.ofBits .f32 0x40800000#32 < Ideal.ofBits .f32 0x00000000#32)) = 0#1
    rw [ofBits_four, Ideal.ofBits_zero_f32, decide_eq_false (not_lt.2 (EReal.coe_nonneg.2 (by norm_num)))]; rfl
  show Scalar.select ((IntOp.cmpi .ne (cmpf (F := Ideal) (φ := .f32) .olt (rests (F := Ideal)) (everywhere (F := Ideal) 0x00000000#32) (ix1 s)) (broadcastInDim S1024 ![] bcast_S_S1024
    (cmpf (F := Ideal) (φ := .f32) .olt (constant S_ .f32 0x40800000#32) (constant S_ .f32 0x00000000#32)) (ix1 s))) &&& _) _ (rests (F := Ideal) (ix1 s)) = _
  rw [h0, h4, show IntOp.cmpi .ne (0#1) (0#1) = 0#1 from rfl, BitVec.zero_and]
  exact rests_apply s

/-- A one in each place. -/
theorem ones_apply (s : Fin 1024) : everywhere (F := Ideal) 0x3F800000#32 (ix1 s) = 1 := by
  show Ideal.ofBits .f32 0x3F800000#32 = 1
  exact Ideal.ofBits_one_f32

/-- A column's entry. -/
theorem column_entry (x : FVec Ideal S1024 .f32) (s : Fin 1024) : column (F := Ideal) x (ix2 s 0) = x (ix1 s) :=
  broadcastInDim_apply (![0] : Fin 1 → Fin 2) _ _ (ix2 s 0) (ix1 s) (fun a => match a with | ⟨0, _⟩ => rfl)

/-- Column `n` of eight columns side by side, for the first three. -/
theorem joinColumns_apply (u : Fin 8 → FVec Ideal S1024x1 .f32) (s : Fin 1024) (n : Fin 8) :
    joinColumns (F := Ideal) (u 0) (u 1) (u 2) (u 3) (u 4) (u 5) (u 6) (u 7) (ix2 s n) = u n (ix2 s 0) :=
  concatenate_ofFn_unit_apply (t := S1024x8) (s₁ := S1024x1) 1 u _ rfl rfl (ix2 s n) n rfl (ix2 s 0)
    (fun b hb => match b with | ⟨0, _⟩ => rfl | ⟨1, _⟩ => absurd rfl hb)

/-- The eight columns beside the codewords. -/
def digitColumns : Fin 8 → FVec Ideal S1024 .f32 :=
  ![quotients (F := Ideal), remainders (F := Ideal), everywhere (F := Ideal) 0x3F800000#32, everywhere (F := Ideal) 0x00000000#32,
    everywhere (F := Ideal) 0x00000000#32, everywhere (F := Ideal) 0x00000000#32, everywhere (F := Ideal) 0x00000000#32,
    everywhere (F := Ideal) 0x00000000#32]

/-- An entry of the eight columns beside the codewords. -/
theorem digits_apply (s : Fin 1024) (n : Fin 8) : digits (F := Ideal) (ix2 s n) = digitColumns n (ix1 s) :=
  (joinColumns_apply (fun n => column (F := Ideal) (digitColumns n)) s n).trans (column_entry (digitColumns n) s)

/-- The table's first 64 columns are the codewords. -/
theorem table_code (s : Fin 1024) (k : Fin 64) :
    table (F := Ideal) (ix2 s (k.castLE (by omega))) = codes (F := Ideal) (ix3 0 s k) := by
  refine (concatenate_pair_apply_left (t := S1024x72) (s₁ := S1024x64) (s₂ := S1024x8) 1 _ _ concatenates_S1024x64_S1024x8_S1024x72_d1 (ix2 s (k.castLE (by omega))) rfl (ix2 s k)
    (fun b => match b with | ⟨0, _⟩ => rfl | ⟨1, _⟩ => rfl)).trans ?_
  exact codeRows_apply s k

/-- The table's last eight columns are the digits. -/
theorem table_digit (s : Fin 1024) (c : Fin 72) (n : Fin 8) (hc : n.val + 64 = c.val) : table (F := Ideal) (ix2 s c) = digits (F := Ideal) (ix2 s n) :=
  concatenate_pair_apply_right (t := S1024x72) (s₁ := S1024x64) (s₂ := S1024x8) 1 _ _ concatenates_S1024x64_S1024x8_S1024x72_d1 (ix2 s c) rfl rfl (ix2 s n)
    (fun b hb => match b with | ⟨0, _⟩ => rfl | ⟨1, _⟩ => absurd rfl hb) hc

/-- Column 64: the quotients. -/
theorem table_quotient (s : Fin 1024) : table (F := Ideal) (ix2 s 64) = (((s.val / 4 : ℕ) : ℝ) : EReal) :=
  (table_digit s 64 0 rfl).trans ((digits_apply s 0).trans (quotients_apply s))

/-- Column 65: the remainders. -/
theorem table_remainder (s : Fin 1024) : table (F := Ideal) (ix2 s 65) = (((s.val % 4 : ℕ) : ℝ) : EReal) :=
  (table_digit s 65 1 rfl).trans ((digits_apply s 1).trans (remainders_apply s))

/-- Column 66: ones. -/
theorem table_one (s : Fin 1024) : table (F := Ideal) (ix2 s 66) = 1 :=
  (table_digit s 66 2 rfl).trans ((digits_apply s 2).trans (ones_apply s))

end Cert.KernelIdeal.Hand

end
-- ==== Proof.Value.ReferenceValue.lean ====
/-
The reference read at an index, at the ideal values.

Each vector has a row of 1024 distances. Its error is the row's least entry, its shortcode the first position of that
entry, and its reconstruction the codeword there.
-/
module

public import proofs.«01_k».proof.Proof.Reference.Run
public import proofs.«01_k».proof.Proof.Value.Nearest
public import Idealize.ShloMosaic.Lib.IdealHost
public import Idealize.ShloMosaic.Lib.Pipeline.Value

@[expose] public section

set_option maxRecDepth 16384

noncomputable section

namespace Cert.ReferenceIdeal.Hand

open Idealize.ShloMosaic hiding ix1 ix2 ix3 ix4 ix5
open Idealize.ShloMosaic.ValueIdx Cert.ReferenceIdeal Cert.ReferenceIdeal.Gen Cert.Nearest

/-! ## The distances -/

/-- The product reads codeword `s` at coordinate `k`. -/
theorem product_left (s : Fin 1024) (t b : Fin 8) (q : Fin 512) (k : Fin 64) :
    dot_S1x1024x64_S8x8x1x512x64_S1x1024x8x8x512_2_4_1_013_0_2.lhsIdx (ix5 0 s t b q) ((contrEquiv1 dot_S1x1024x64_S8x8x1x512x64_S1x1024x8x8x512_2_4_1_013_0_2 64 rfl rfl).symm k)
      = ix3 0 s k := by
  funext a
  apply Fin.ext
  match a with
  | ⟨0, _⟩ => rfl
  | ⟨1, _⟩ => rfl
  | ⟨2, _⟩ => rfl

/-- The product reads vector `q` of group `b` in row `t` at coordinate `k`. -/
theorem product_right (s : Fin 1024) (t b : Fin 8) (q : Fin 512) (k : Fin 64) :
    dot_S1x1024x64_S8x8x1x512x64_S1x1024x8x8x512_2_4_1_013_0_2.rhsIdx (ix5 0 s t b q) ((contrEquiv1 dot_S1x1024x64_S8x8x1x512x64_S1x1024x8x8x512_2_4_1_013_0_2 64 rfl rfl).symm k)
      = ix5 t b 0 q k := by
  funext a
  apply Fin.ext
  match a with
  | ⟨0, _⟩ => rfl
  | ⟨1, _⟩ => rfl
  | ⟨2, _⟩ => rfl
  | ⟨3, _⟩ => rfl
  | ⟨4, _⟩ => rfl

variable (x : FVec Ideal S8x8x1x512x64 .f32) (t b : Fin 8) (q : Fin 512)

/-- The product of codeword `s` with a vector. -/
theorem product_apply (s : Fin 1024) :
    Host.dotGeneral (F := Ideal) (φ₁ := .f32) (φ₂ := .f32) dot_S1x1024x64_S8x8x1x512x64_S1x1024x8x8x512_2_4_1_013_0_2 none (codes (F := Ideal)) x (ix5 0 s t b q)
      = ∑ k : Fin 64, codes (F := Ideal) (ix3 0 s k) * x (ix5 t b 0 q k) := by
  simp only [Host.dotGeneral]
  rw [Ideal.dotGeneral_apply, ← Equiv.sum_comp (contrEquiv1 dot_S1x1024x64_S8x8x1x512x64_S1x1024x8x8x512_2_4_1_013_0_2 64 rfl rfl).symm]
  refine Finset.sum_congr rfl fun k _ => ?_
  rw [product_left, product_right]

/-- A vector's distances to the codewords. -/
def row : Row := fun s => dists (F := Ideal) x (ix5 t b 0 q s)

/-- A distance: the vector's squared norm, less twice the product, plus the codeword's squared norm. -/
theorem row_apply (s : Fin 1024) :
    row x t b q s
      = Host.reduceAdd (F := Ideal) (mulf x x) (constant S_ .f32 0x00000000#32) reducesTo_S8x8x1x512x64_S8x8x1x512_d4 h_S_ (ix4 t b 0 q)
        - Ideal.ofBits .f32 0x40000000#32 * (∑ k : Fin 64, codes (F := Ideal) (ix3 0 s k) * x (ix5 t b 0 q k))
        + Host.reduceAdd (F := Ideal) (mulf (codes (F := Ideal)) (codes (F := Ideal))) (constant S_ .f32 0x00000000#32) reducesTo_S1x1024x64_S1x1024_d2 h_S_ (ix2 0 s) := by
  refine congrArg₂ (· + ·) (congrArg₂ (· - ·) ?_ (congrArg (Ideal.ofBits .f32 0x40000000#32 * ·) ?_)) ?_
  · refine (broadcastInDim_apply (s := S8x8x1x512x1) (t := S8x8x1x512x1024) ![0, 1, 2, 3, 4] _ _ (ix5 t b 0 q s) (ix5 t b 0 q 0)
      (fun a => match a with | ⟨0, _⟩ => rfl | ⟨1, _⟩ => rfl | ⟨2, _⟩ => rfl | ⟨3, _⟩ => rfl | ⟨4, _⟩ => rfl)).trans ?_
    exact broadcastInDim_apply (s := S8x8x1x512) (t := S8x8x1x512x1) ![0, 1, 2, 3] _ _ (ix5 t b 0 q 0) (ix4 t b 0 q)
      (fun a => match a with | ⟨0, _⟩ => rfl | ⟨1, _⟩ => rfl | ⟨2, _⟩ => rfl | ⟨3, _⟩ => rfl)
  · refine (transpose_apply (s := S1x1024x8x8x512) (t := S8x8x1x512x1024) [2, 3, 0, 4, 1] _ _ (ix5 t b 0 q s) (ix5 0 s t b q)
      (fun a => match a with | ⟨0, _⟩ => rfl | ⟨1, _⟩ => rfl | ⟨2, _⟩ => rfl | ⟨3, _⟩ => rfl | ⟨4, _⟩ => rfl)).trans ?_
    exact product_apply x t b q s
  · refine (broadcastInDim_apply (s := S1x1x1x1x1024) (t := S8x8x1x512x1024) ![0, 1, 2, 3, 4] _ _ (ix5 t b 0 q s) (ix5 0 0 0 0 s)
      (fun a => match a with | ⟨0, _⟩ => rfl | ⟨1, _⟩ => rfl | ⟨2, _⟩ => rfl | ⟨3, _⟩ => rfl | ⟨4, _⟩ => rfl)).trans ?_
    refine (broadcastInDim_apply (s := S1x1x1x1024) (t := S1x1x1x1x1024) ![1, 2, 3, 4] _ _ (ix5 0 0 0 0 s) (ix4 0 0 0 s)
      (fun a => match a with | ⟨0, _⟩ => rfl | ⟨1, _⟩ => rfl | ⟨2, _⟩ => rfl | ⟨3, _⟩ => rfl)).trans ?_
    exact broadcastInDim_apply (s := S1x1024) (t := S1x1x1x1024) ![2, 3] _ _ (ix4 0 0 0 s) (ix2 0 s)
      (fun a => match a with | ⟨0, _⟩ => rfl | ⟨1, _⟩ => rfl)

/-! ## The errors and the shortcodes -/

/-- Dropping the codeword's axis. -/
theorem drops : S8x8x1x512x1024.Reduces [4] S8x8x1x512 := by decide

/-- The index of a vector with a codeword put in. -/
theorem lift_vector (s : Fin (S8x8x1x512x1024.size 4)) :
    drops.lift (ix4 t b 0 q) s = ix5 (n0 := 8) (n1 := 8) (n2 := 1) (n3 := 512) (n4 := 1024) t b 0 q s := by
  funext c; apply Fin.ext; refine (drops.lift_val _ _ _).trans ?_
  match c with
  | ⟨0, _⟩ => simp [Shape.Reduces.liftVal]
  | ⟨1, _⟩ => simp [Shape.Reduces.liftVal]
  | ⟨2, _⟩ => simp [Shape.Reduces.liftVal]
  | ⟨3, _⟩ => simp [Shape.Reduces.liftVal]
  | ⟨4, _⟩ => simp [Shape.Reduces.liftVal]

/-- A vector's error is the least of its distances. -/
theorem errs_apply : errs (F := Ideal) x (ix4 t b 0 q) = least (row x t b q) := by
  refine (Host.reduce_eq_fold_single (min : EReal → EReal → EReal) (dists (F := Ideal) x) _ reducesTo_S8x8x1x512x1024_S8x8x1x512_d4 drops h_S_ (ix4 t b 0 q)).trans ?_
  show Finset.fold min (Ideal.ofBits .f32 0x7F800000#32) _ _ = _
  rw [show Ideal.ofBits .f32 0x7F800000#32 = (⊤ : EReal) by simp [Ideal.ofBits, Ideal.ieee]]
  refine congrArg (fun f => Finset.fold min ⊤ f Finset.univ) (funext fun s => ?_)
  exact congrArg (dists (F := Ideal) x) (lift_vector t b q s)

/-- The search's step keeps its first pair where that has the smaller distance, or the same distance at an earlier
position, and its second pair elsewhere. -/
theorem step_eq (p r : Pair) :
    reducer_argmin_f32_i32 (F := Ideal) p r = if p.1 < r.1 ∨ (p.1 = r.1 ∧ p.2.toInt < r.2.toInt) then p else r := by
  have hne : Ideal.cmp .une p.1 p.1 = 0 := by rw [Ideal.cmp_une]; simp
  obtain ⟨v, i⟩ := p
  obtain ⟨w, j⟩ := r
  show (Scalar.select (IntOp.ori (Ideal.cmp .olt v w) (Ideal.cmp .une v v)) v w,
    Scalar.select (IntOp.ori (IntOp.ori (Ideal.cmp .olt v w) (Ideal.cmp .une v v)) (IntOp.andi (Ideal.cmp .oeq v w) (IntOp.cmpi .slt i j))) i j) = _
  rw [hne, Ideal.cmp_olt, Ideal.cmp_oeq]
  rcases lt_trichotomy v w with h | h | h
  · rw [if_pos (Or.inl h), decide_eq_true h]
    generalize IntOp.andi _ _ = u
    have hc : IntOp.ori (IntOp.ori (BitVec.ofBool true) 0) u = 1#1 := by
      revert u; decide
    rw [hc]
    rfl
  · subst h
    rw [WordCmp.cmpi_slt_eq]
    by_cases hs : i.toInt < j.toInt <;> simp [hs, Scalar.select, IntOp.ori, IntOp.andi]
  · simp [h.ne', not_lt.2 h.le, Scalar.select, IntOp.ori, IntOp.andi]

/-- Where the first pair is not kept, the second is as good. -/
theorem better_of_not (p r : Pair) (h : ¬(p.1 < r.1 ∨ (p.1 = r.1 ∧ p.2.toInt < r.2.toInt))) : Better r p := by
  rw [not_or, not_and, not_lt, not_lt] at h
  rcases h.1.lt_or_eq with hv | hv
  · exact Or.inl hv
  · exact Or.inr ⟨hv, h.2 hv.symm⟩

/-- The pairs a search runs over, for any shapes: those at the indices whose reduced index is the row's. -/
theorem mem_fiber {α β : Type} {s r : Shape} {axes : List (Fin s.rank)} (d : s.Idx → α) (y : s.Idx → β) (h : s.ReducesTo axes r) (j : r.Idx) (p : α × β) :
    p ∈ Host.argReduceFiber d y h j ↔ ∃ i, h.drop i = j ∧ p = (d i, y i) := by
  unfold Host.argReduceFiber
  simp only [List.mem_map, List.mem_filter, List.mem_finRange, true_and, decide_eq_true_eq]
  constructor
  · rintro ⟨n, hn, rfl⟩; exact ⟨_, hn, rfl⟩
  · rintro ⟨i, hi, rfl⟩; exact ⟨s.rowMajor i, by rw [Equiv.symm_apply_apply]; exact hi, by rw [Equiv.symm_apply_apply]⟩

/-- The indices that reduce to a vector are those of its codewords. -/
theorem drop_eq_iff (i : S8x8x1x512x1024.Idx) :
    reducesTo_S8x8x1x512x1024_S8x8x1x512_d4.drop i = ix4 t b 0 q ↔ ∃ s : Fin 1024, i = ix5 t b 0 q s := by
  rw [Shape.ReducesTo.drop_eq_drop reducesTo_S8x8x1x512x1024_S8x8x1x512_d4 drops]
  constructor
  · intro h; exact ⟨i 4, (drops.lift_drop i).symm.trans ((congrArg (drops.lift · (i 4)) h).trans (lift_vector t b q (i 4)))⟩
  · rintro ⟨s, rfl⟩; exact (congrArg drops.drop (lift_vector t b q s)).symm.trans (drops.drop_lift _ _)

/-- A search whose pairs are a row's distances with their positions finds the first position of the least. -/
theorem search_apply {s r u : Shape} {axes : List (Fin s.rank)} (d : FVec Ideal s .f32) (y : s.Idx → BitVec 32) (v : FVec Ideal u .f32)
    (w : u.Idx → BitVec 32) (h : s.ReducesTo axes r) (hu : 0 < u.numel) (j : r.Idx) (D : Row)
    (hv : v (Shape.Idx.first hu) = (⊤ : EReal)) (hw : w (Shape.Idx.first hu) = 0#32)
    (hs : ∀ n : Fin 1024, ∃ i, h.drop i = j ∧ (D n, BitVec.ofNat 32 n.val) = (d i, y i))
    (ha : ∀ i, h.drop i = j → ∃ n : Fin 1024, (d i, y i) = (D n, BitVec.ofNat 32 n.val)) :
    Host.argReduce (reducer_argmin_f32_i32 (F := Ideal)) d y v w h hu j = (least D, BitVec.ofNat 32 (first D).val) := by
  rw [Ideal.argReduce_eq_reduce2, Host.reduce2_eq_foldl_fiber, hv, hw]
  refine foldl_row (reducer_argmin_f32_i32 (F := Ideal)) (fun p r => ?_) (fun p r => ?_) (fun p r => ?_) D _ (fun n => ?_) (fun p hp => ?_)
  · rw [step_eq]; split <;> simp
  · rw [step_eq]; split
    · exact Better.refl p
    · next hn => exact better_of_not p r hn
  · rw [step_eq]; split
    · next hy => exact hy.imp_right (And.imp_right le_of_lt)
    · exact Better.refl r
  · exact (mem_fiber _ _ _ _ _).2 (hs n)
  · obtain ⟨i, hi, rfl⟩ := (mem_fiber _ _ _ _ _).1 hp
    exact ha i hi

/-- The search starts from infinity. -/
theorem start_value : constant (F := Ideal) S_ .f32 0x7F800000#32 (Shape.Idx.first h_S_) = (⊤ : EReal) := by
  show Ideal.ofBits .f32 0x7F800000#32 = ⊤
  simp [Ideal.ofBits, Ideal.ieee]

/-- Codeword `n`'s place in a vector's row holds `n`. -/
theorem position_apply (n : Fin 1024) : iotaInDim S8x8x1x512x1024 32 4 (ix5 t b 0 q n) = BitVec.ofNat 32 n.val := rfl

/-- A vector's pairs are its distances with their positions. -/
theorem pair_apply (n : Fin 1024) :
    (row x t b q n, BitVec.ofNat 32 n.val) = (dists (F := Ideal) x (ix5 t b 0 q n), iotaInDim S8x8x1x512x1024 32 4 (ix5 t b 0 q n)) :=
  Prod.ext rfl (position_apply t b q n).symm

/-- The reference's search, its shapes read off the buffers. -/
theorem leastIndex_eq (d : FVec Ideal S8x8x1x512x1024 .f32) (y : IVec S8x8x1x512x1024 32) (v : FVec Ideal S_ .f32) (w : IVec S_ 32) :
    leastIndex (F := Ideal) d y v w
      = fun j => (Host.argReduce (s := (⟨S8x8x1x512x1024, .f32⟩ : BufTy).shape) (u := (⟨S_, .f32⟩ : BufTy).shape) (reducer_argmin_f32_i32 (F := Ideal)) d y v w
          reducesTo_S8x8x1x512x1024_S8x8x1x512_d4 h_S_ j).2 := rfl

/-- The search with those shapes is the search with the shapes themselves. -/
theorem search_shapes (d : FVec Ideal S8x8x1x512x1024 .f32) (y : IVec S8x8x1x512x1024 32) (v : FVec Ideal S_ .f32) (w : IVec S_ 32) (j : S8x8x1x512.Idx) :
    Host.argReduce (s := (⟨S8x8x1x512x1024, .f32⟩ : BufTy).shape) (u := (⟨S_, .f32⟩ : BufTy).shape) (reducer_argmin_f32_i32 (F := Ideal)) d y v w
        reducesTo_S8x8x1x512x1024_S8x8x1x512_d4 h_S_ j
      = Host.argReduce (s := S8x8x1x512x1024) (u := S_) (reducer_argmin_f32_i32 (F := Ideal)) d y v w reducesTo_S8x8x1x512x1024_S8x8x1x512_d4 h_S_ j := rfl

/-- A vector's search finds its least distance and the first position of it. -/
theorem search_row :
    Host.argReduce (s := S8x8x1x512x1024) (u := S_) (reducer_argmin_f32_i32 (F := Ideal)) (dists (F := Ideal) x) (iotaInDim S8x8x1x512x1024 32 4)
        (constant (F := Ideal) S_ .f32 0x7F800000#32) (constantI S_ 32 0#32) reducesTo_S8x8x1x512x1024_S8x8x1x512_d4 h_S_ (ix4 t b 0 q)
      = (least (row x t b q), BitVec.ofNat 32 (first (row x t b q)).val) := by
  refine search_apply (dists (F := Ideal) x) _ _ _ _ _ _ (row x t b q) start_value rfl (fun n => ⟨ix5 t b 0 q n, (drop_eq_iff t b q _).2 ⟨n, rfl⟩, pair_apply x t b q n⟩) (fun i hi => ?_)
  obtain ⟨n, rfl⟩ := (drop_eq_iff t b q i).1 hi
  exact ⟨n, (pair_apply x t b q n).symm⟩

/-- A vector's shortcode is the first position of its least distance. -/
theorem shortcodes_apply : shortcodes (F := Ideal) x (ix4 t b 0 q) = BitVec.ofNat 32 (first (row x t b q)).val := by
  unfold shortcodes
  refine (congrFun (leastIndex_eq _ _ _ _) _).trans ?_
  exact congrArg Prod.snd ((search_shapes _ _ _ _ _).trans (search_row x t b q))

/-! ## The reconstruction -/

/-- The component read at a start index: the vector's own place and the component's. -/
theorem start_place (k : Fin 64) (n : Fin 2) :
    gather_S1x1024x64_S8x8x1x512x2_S8x8x1x512x64_4_01_n_n_01_4_1164.siIdx (ix5 t b 0 q k) n = ix5 t b 0 q n := by
  funext a
  apply Fin.ext
  match a with
  | ⟨0, _⟩ => rfl
  | ⟨1, _⟩ => rfl
  | ⟨2, _⟩ => rfl
  | ⟨3, _⟩ => rfl
  | ⟨4, _⟩ => rfl

variable (z : IVec S8x8x1x512 32) (n : Fin 1024) (hz : z (ix4 t b 0 q) = BitVec.ofNat 32 n.val)
include hz

/-- A shortcode is never negative, so it is its own row. -/
theorem codeIndex_apply : codeIndex (F := Ideal) z (ix4 t b 0 q) = BitVec.ofNat 32 n.val := by
  show Scalar.select (IntOp.cmpi .slt (z (ix4 t b 0 q)) 0#32) _ (z (ix4 t b 0 q)) = _
  have h : IntOp.cmpi .slt (z (ix4 t b 0 q)) 0#32 = 0#1 := by
    have hn := toInt_word n
    rw [hz, WordCmp.cmpi_slt_eq, decide_eq_false (by rw [hn]; show ¬(n.val : ℤ) < 0; omega)]
    rfl
  rw [h]
  exact hz

omit hz in
/-- A start index's second component is the shortcode's row. -/
theorem startIndex_apply (u : IVec S8x8x1x512x1 32) (w : IVec S8x8x1x512 32) :
    joinIndices (F := Ideal) u (broadcastInDim S8x8x1x512x1 ![0, 1, 2, 3] bcast_S8x8x1x512_S8x8x1x512x1_0_1_2_3 w) (ix5 t b 0 q 1) = w (ix4 t b 0 q) := by
  refine (concatenate_pair_apply_right (t := S8x8x1x512x2) (s₁ := S8x8x1x512x1) (s₂ := S8x8x1x512x1) 4 _ _ concatenates_S8x8x1x512x1_S8x8x1x512x1_S8x8x1x512x2_d4
    (ix5 t b 0 q 1) rfl rfl (ix5 t b 0 q 0)
    (fun c hc => match c with | ⟨0, _⟩ => rfl | ⟨1, _⟩ => rfl | ⟨2, _⟩ => rfl | ⟨3, _⟩ => rfl | ⟨4, _⟩ => absurd rfl hc) rfl).trans ?_
  exact broadcastInDim_apply (s := S8x8x1x512) (t := S8x8x1x512x1) ![0, 1, 2, 3] _ _ (ix5 t b 0 q 0) (ix4 t b 0 q)
    (fun a => match a with | ⟨0, _⟩ => rfl | ⟨1, _⟩ => rfl | ⟨2, _⟩ => rfl | ⟨3, _⟩ => rfl)

/-- The codeword a shortcode names. -/
theorem looked_apply (k : Fin 64) : looked (F := Ideal) z (ix5 t b 0 q k) = codes (F := Ideal) (ix3 0 n k) := by
  unfold looked Host.gather
  refine congrArg (codes (F := Ideal)) (funext fun a => Fin.ext ?_)
  match a with
  | ⟨0, _⟩ => exact Nat.lt_one_iff.mp (Fin.isLt _)
  | ⟨1, _⟩ =>
    show min (joinIndices (F := Ideal) _ _ (gather_S1x1024x64_S8x8x1x512x2_S8x8x1x512x64_4_01_n_n_01_4_1164.siIdx (ix5 t b 0 q k) (1 : Fin 2))).toInt.toNat 1023 + 0 + 0 = n.val
    rw [start_place]
    rw [startIndex_apply, codeIndex_apply t b q z n hz, toInt_word]
    have := n.isLt
    omega
  | ⟨2, _⟩ => show 0 + 0 + k.val = k.val; omega

omit z n hz in
/-- A reconstruction, where the vectors' entries less themselves are zero: the first nearest codeword. -/
theorem hat_apply (h0 : ∀ i, x i - x i = (0 : EReal)) (k : Fin 64) :
    hat (F := Ideal) x (ix5 t b 0 q k) = codes (F := Ideal) (ix3 0 (first (row x t b q)) k) := by
  show looked (F := Ideal) (shortcodes (F := Ideal) x) (ix5 t b 0 q k) + (x (ix5 t b 0 q k) - x (ix5 t b 0 q k)) = _
  rw [h0, add_zero]
  exact looked_apply t b q _ _ (shortcodes_apply x t b q) k

end Cert.ReferenceIdeal.Hand

end
-- ==== Proof.Value.Blocks.lean ====
/-
What each grid point reads.

Point t of the grid works on row t / 4 and on the groups 2 (t % 4) and 2 (t % 4) + 1. It reads those vectors and their
norms, and all of the codebook's arrays; so the distances it forms are the reference's.
-/
module

public import proofs.«01_k».proof.Proof.Frame.IdealRun
public import proofs.«01_k».proof.Proof.Value.Tables
public import proofs.«01_k».proof.Proof.Value.ReferenceValue

@[expose] public section

set_option maxRecDepth 16384

noncomputable section

namespace Cert.KernelIdeal.Hand

open Idealize.ShloMosaic hiding ix1 ix2 ix3 ix4 ix5
open Idealize.ShloMosaic.TcCoe Idealize.SL.Sem
open Idealize.ShloMosaic.ValueIdx Cert.KernelIdeal.Gen Cert.Nearest

/-- The row point `t` works on. -/
def rowPt (t : Fin cfg0.N) : Fin 8 := ⟨t.val / 4, by have h : cfg0.N = 32 := N_0; have := t.isLt; omega⟩

/-- The groups point `t` works on. -/
def groupPt (t : Fin cfg0.N) (a : Fin 2) : Fin 8 := ⟨t.val % 4 * 2 + a.val, by have := a.isLt; omega⟩

/-- The vectors' block at a point. -/
theorem index0 : ∀ t : Fin grid0.N, win0_0.index t = ![t.val / 4, t.val % 4, 0, 0, 0] := by decide +kernel
/-- The norms' block at a point. -/
theorem index1 : ∀ t : Fin grid0.N, win0_1.index t = ![t.val / 4, t.val % 4, 0, 0, 0] := by decide +kernel
/-- The codebook's one block. -/
theorem index2 : ∀ t : Fin grid0.N, win0_2.index t = ![0, 0] := by decide +kernel
/-- The table's one block. -/
theorem index3 : ∀ t : Fin grid0.N, win0_3.index t = ![0, 0] := by decide +kernel
/-- The codewords' norms' one block. -/
theorem index4 : ∀ t : Fin grid0.N, win0_4.index t = ![0, 0] := by decide +kernel
/-- The reconstruction's block at a point. -/
theorem index5 : ∀ t : Fin grid0.N, win0_5.index t = ![t.val / 4, t.val % 4, 0, 0, 0] := by decide +kernel
/-- The shortcodes' block at a point. -/
theorem index6 : ∀ t : Fin grid0.N, win0_6.index t = ![t.val / 4, t.val % 4, 0, 0] := by decide +kernel
/-- The errors' block at a point. -/
theorem index7 : ∀ t : Fin grid0.N, win0_7.index t = ![t.val / 4, t.val % 4, 0, 0] := by decide +kernel

variable (m : (ℓ : Loc nD τ sig) → Buf (Elt Ideal) ℓ) (c : Dev nD) (t : Fin cfg0.N)

/-- The kernel's vectors. -/
def vecs : FVec Ideal S8x8x1x512x64 .f32 := m ((c : Thread nD τ).loc main_arg0)

/-- The vectors a point reads. -/
theorem block_vecs (a : Fin 2) (b : Fin 512) (k : Fin 64) :
    (iblk m c 0 t : FVec Ideal S1x2x1x512x64 .f32) (ix5 0 a 0 b k) = vecs m c (ix5 (rowPt t) (groupPt t a) 0 b k) := by
  unfold iblk
  rw [View.read_apply]
  show V m c main_arg0 _ = _
  rw [V_main_arg0]
  refine congrArg (m ((c : Thread nD τ).loc main_arg0)) (funext fun d => Fin.ext ((win0_0.rect_emb_val t _ d).trans ?_))
  have e := index0 t
  match d with
  | ⟨0, _⟩ => rw [show win0_0.index t ⟨0, _⟩ = t.val / 4 from congrFun e 0]; show t.val / 4 * 1 + 0 = t.val / 4; omega
  | ⟨1, _⟩ => rw [show win0_0.index t ⟨1, _⟩ = t.val % 4 from congrFun e 1]; rfl
  | ⟨2, _⟩ => rw [show win0_0.index t ⟨2, _⟩ = 0 from congrFun e 2]; rfl
  | ⟨3, _⟩ => rw [show win0_0.index t ⟨3, _⟩ = 0 from congrFun e 3]; show 0 * 512 + b.val = b.val; omega
  | ⟨4, _⟩ => rw [show win0_0.index t ⟨4, _⟩ = 0 from congrFun e 4]; show 0 * 64 + k.val = k.val; omega

/-- The norms a point reads. -/
theorem block_norms (a : Fin 2) (b : Fin 512) :
    (iblk m c 1 t : FVec Ideal S1x2x1x512x1 .f32) (ix5 0 a 0 b 0) = vecNorms (F := Ideal) (vecs m c) (ix5 (rowPt t) (groupPt t a) 0 b 0) := by
  unfold iblk
  rw [View.read_apply]
  show V m c main_call0_v60 _ = _
  rw [V_vecNorms]
  refine congrArg (vecNorms (F := Ideal) (vecs m c)) (funext fun d => Fin.ext ((win0_1.rect_emb_val t _ d).trans ?_))
  have e := index1 t
  match d with
  | ⟨0, _⟩ => rw [show win0_1.index t ⟨0, _⟩ = t.val / 4 from congrFun e 0]; show t.val / 4 * 1 + 0 = t.val / 4; omega
  | ⟨1, _⟩ => rw [show win0_1.index t ⟨1, _⟩ = t.val % 4 from congrFun e 1]; rfl
  | ⟨2, _⟩ => rw [show win0_1.index t ⟨2, _⟩ = 0 from congrFun e 2]; rfl
  | ⟨3, _⟩ => rw [show win0_1.index t ⟨3, _⟩ = 0 from congrFun e 3]; show 0 * 512 + b.val = b.val; omega
  | ⟨4, _⟩ => rw [show win0_1.index t ⟨4, _⟩ = 0 from congrFun e 4]; rfl

/-- Every point reads the whole codebook, -/
theorem block_columns : (iblk m c 2 t : FVec Ideal S64x1024 .f32) = codeColumns (F := Ideal) := by
  funext j
  unfold iblk
  rw [View.read_apply]
  show V m c main_call0_v34 _ = _
  rw [V_codeColumns]
  exact congrArg (codeColumns (F := Ideal)) (funext fun d => Fin.ext (win0_2.rect_emb_val_of_index_zero t d
    (match d with | ⟨0, _⟩ => congrFun (index2 t) 0 | ⟨1, _⟩ => congrFun (index2 t) 1) j))

/-- the whole table, -/
theorem block_table : (iblk m c 3 t : FVec Ideal S1024x72 .bf16) = table (F := Ideal) := by
  funext j
  unfold iblk
  rw [View.read_apply]
  show V m c main_call0_v57 _ = _
  rw [V_table]
  exact congrArg (table (F := Ideal)) (funext fun d => Fin.ext (win0_3.rect_emb_val_of_index_zero t d
    (match d with | ⟨0, _⟩ => congrFun (index3 t) 0 | ⟨1, _⟩ => congrFun (index3 t) 1) j))

/-- and all the codewords' norms. -/
theorem block_codeNorms : (iblk m c 4 t : FVec Ideal S1x1024 .f32) = codeNorms (F := Ideal) := by
  funext j
  unfold iblk
  rw [View.read_apply]
  show V m c main_call0_v38 _ = _
  rw [V_codeNorms]
  exact congrArg (codeNorms (F := Ideal)) (funext fun d => Fin.ext (win0_4.rect_emb_val_of_index_zero t d
    (match d with | ⟨0, _⟩ => congrFun (index4 t) 0 | ⟨1, _⟩ => congrFun (index4 t) 1) j))

/-- The distances a point forms are the reference's. -/
theorem block_row (a : Fin 2) (b : Fin 512) :
    blockRow (iblk m c 0 t) (iblk m c 1 t) (iblk m c 2 t) (iblk m c 4 t) (rowOf a b)
      = Cert.ReferenceIdeal.Hand.row (vecs m c) (rowPt t) (groupPt t a) b := by
  funext s
  refine (blockRow_apply _ _ _ _ a b s).trans ((Cert.ReferenceIdeal.Hand.row_apply _ _ _ _ s).trans ?_).symm
  refine congrArg₂ (· + ·) (congrArg₂ (· - ·) ?_ (congrArg (Ideal.ofBits .f32 0x40000000#32 * ·) (Finset.sum_congr rfl fun k _ => ?_))) ?_
  · exact (vecNorms_apply (vecs m c) _ _ _).symm.trans (block_norms m c t a b).symm
  · rw [codes_eq, mul_comm]
    exact congrArg₂ (· * ·) (block_vecs m c t a b k).symm (((congrFun (block_columns m c t) _).trans (codeColumns_apply k s)).symm)
  · rw [codes_eq]
    exact (codeNorms_apply s).symm.trans (congrFun (block_codeNorms m c t) _).symm

end Cert.KernelIdeal.Hand

end
-- ==== Proof.Value.Arrays.lean ====
/-
What the kernel's result arrays hold after the last grid point: the reference's values.

Each point writes back the block of its own row and groups, and every vector is in one such block.
-/
module

public import proofs.«01_k».proof.Proof.Value.Blocks
public import Idealize.ShloMosaic.Lib.Pipeline.ValueKit.Geometry

@[expose] public section

set_option maxRecDepth 16384

noncomputable section

namespace Cert.KernelIdeal.Hand

open Idealize.ShloMosaic hiding ix1 ix2 ix3 ix4 ix5
open Idealize.ShloMosaic.TcCoe Idealize.SL.Sem
open Idealize.ShloMosaic.ValueIdx Cert.KernelIdeal.Gen Cert.Nearest

/-! ## Points and places -/

/-- An index of a block of vectors' coordinates. -/
theorem block5 (y : S1x2x1x512x64.Idx) : ∃ (a : Fin 2) (b : Fin 512) (k : Fin 64), y = ix5 0 a 0 b k := by
  refine ⟨y 1, y 3, y 4, funext fun d => ?_⟩
  match d with
  | ⟨0, _⟩ => exact Subsingleton.elim (α := Fin 1) _ _
  | ⟨1, _⟩ => rfl
  | ⟨2, _⟩ => exact Subsingleton.elim (α := Fin 1) _ _
  | ⟨3, _⟩ => rfl
  | ⟨4, _⟩ => rfl

/-- An index of a block of vectors. -/
theorem block4 (y : S1x2x1x512.Idx) : ∃ (a : Fin 2) (b : Fin 512), y = ix4 0 a 0 b := by
  refine ⟨y 1, y 3, funext fun d => ?_⟩
  match d with
  | ⟨0, _⟩ => exact Subsingleton.elim (α := Fin 1) _ _
  | ⟨1, _⟩ => rfl
  | ⟨2, _⟩ => exact Subsingleton.elim (α := Fin 1) _ _
  | ⟨3, _⟩ => rfl

/-- Where a block's coordinate lands in the reconstruction. -/
theorem place5 (t : Fin cfg0.N) (a : Fin 2) (b : Fin 512) (k : Fin 64) :
    ((cfg0.win 5).blk t).view.emb (ix5 (n0 := 1) (n1 := 2) (n2 := 1) (n3 := 512) (n4 := 64) 0 a 0 b k) = ix5 (n0 := 8) (n1 := 8) (n2 := 1) (n3 := 512) (n4 := 64) (rowPt t) (groupPt t a) 0 b k := by
  refine funext fun d => Fin.ext ((win0_5.rect_emb_val t _ d).trans ?_)
  have e := index5 t
  match d with
  | ⟨0, _⟩ => rw [show win0_5.index t ⟨0, _⟩ = t.val / 4 from congrFun e 0]; show t.val / 4 * 1 + 0 = t.val / 4; omega
  | ⟨1, _⟩ => rw [show win0_5.index t ⟨1, _⟩ = t.val % 4 from congrFun e 1]; rfl
  | ⟨2, _⟩ => rw [show win0_5.index t ⟨2, _⟩ = 0 from congrFun e 2]; rfl
  | ⟨3, _⟩ => rw [show win0_5.index t ⟨3, _⟩ = 0 from congrFun e 3]; show 0 * 512 + b.val = b.val; omega
  | ⟨4, _⟩ => rw [show win0_5.index t ⟨4, _⟩ = 0 from congrFun e 4]; show 0 * 64 + k.val = k.val; omega

/-- Where a block's vector lands in the shortcodes. -/
theorem place6 (t : Fin cfg0.N) (a : Fin 2) (b : Fin 512) :
    ((cfg0.win 6).blk t).view.emb (ix4 (n0 := 1) (n1 := 2) (n2 := 1) (n3 := 512) 0 a 0 b) = ix4 (n0 := 8) (n1 := 8) (n2 := 1) (n3 := 512) (rowPt t) (groupPt t a) 0 b := by
  refine funext fun d => Fin.ext ((win0_6.rect_emb_val t _ d).trans ?_)
  have e := index6 t
  match d with
  | ⟨0, _⟩ => rw [show win0_6.index t ⟨0, _⟩ = t.val / 4 from congrFun e 0]; show t.val / 4 * 1 + 0 = t.val / 4; omega
  | ⟨1, _⟩ => rw [show win0_6.index t ⟨1, _⟩ = t.val % 4 from congrFun e 1]; rfl
  | ⟨2, _⟩ => rw [show win0_6.index t ⟨2, _⟩ = 0 from congrFun e 2]; rfl
  | ⟨3, _⟩ => rw [show win0_6.index t ⟨3, _⟩ = 0 from congrFun e 3]; show 0 * 512 + b.val = b.val; omega

/-- Where a block's vector lands in the errors. -/
theorem place7 (t : Fin cfg0.N) (a : Fin 2) (b : Fin 512) :
    ((cfg0.win 7).blk t).view.emb (ix4 (n0 := 1) (n1 := 2) (n2 := 1) (n3 := 512) 0 a 0 b) = ix4 (n0 := 8) (n1 := 8) (n2 := 1) (n3 := 512) (rowPt t) (groupPt t a) 0 b := by
  refine funext fun d => Fin.ext ((win0_7.rect_emb_val t _ d).trans ?_)
  have e := index7 t
  match d with
  | ⟨0, _⟩ => rw [show win0_7.index t ⟨0, _⟩ = t.val / 4 from congrFun e 0]; show t.val / 4 * 1 + 0 = t.val / 4; omega
  | ⟨1, _⟩ => rw [show win0_7.index t ⟨1, _⟩ = t.val % 4 from congrFun e 1]; rfl
  | ⟨2, _⟩ => rw [show win0_7.index t ⟨2, _⟩ = 0 from congrFun e 2]; rfl
  | ⟨3, _⟩ => rw [show win0_7.index t ⟨3, _⟩ = 0 from congrFun e 3]; show 0 * 512 + b.val = b.val; omega

/-- The blocks cover the reconstruction, -/
theorem covers5 : win0_5.Covers := by decide +kernel
/-- the shortcodes, -/
theorem covers6 : win0_6.Covers := by decide +kernel
/-- and the errors. -/
theorem covers7 : win0_7.Covers := by decide +kernel

variable (m : (ℓ : Loc nD τ sig) → Buf (Elt Ideal) ℓ) (c : Dev nD)

/-! ## What a point leaves -/

/-- A point leaves the reference's errors of its vectors, -/
theorem errs_point (t : Fin cfg0.N) (a : Fin 2) (b : Fin 512) :
    (k0_pay9 (iblk m c 0 t) (iblk m c 2 t) (iblk m c 1 t) (iblk m c 4 t) : FVec Ideal S1x2x1x512 .f32) (ix4 0 a 0 b)
      = Cert.ReferenceIdeal.Hand.errs (F := Ideal) (vecs m c) (ix4 (rowPt t) (groupPt t a) 0 b) :=
  (errOf_apply (iblk m c 0 t) (iblk m c 1 t) (iblk m c 2 t) (iblk m c 4 t) a b).trans
    ((congrArg least (block_row m c t a b)).trans (Cert.ReferenceIdeal.Hand.errs_apply (vecs m c) (rowPt t) (groupPt t a) b).symm)

/-- the reference's shortcodes, -/
theorem codes_point (t : Fin cfg0.N) (a : Fin 2) (b : Fin 512) :
    (zOf (iblk m c 0 t) (iblk m c 1 t) (iblk m c 2 t) (iblk m c 3 t) (iblk m c 4 t) : IVec S1x2x1x512 32) (ix4 0 a 0 b)
      = Cert.ReferenceIdeal.Hand.shortcodes (F := Ideal) (vecs m c) (ix4 (rowPt t) (groupPt t a) 0 b) := by
  rw [block_table]
  exact (zOf_apply (iblk m c 0 t) (iblk m c 1 t) (iblk m c 2 t) _ (iblk m c 4 t) table_quotient table_remainder table_one a b).trans
    ((congrArg (fun d => BitVec.ofNat 32 (first d).val) (block_row m c t a b)).trans
      (Cert.ReferenceIdeal.Hand.shortcodes_apply (vecs m c) (rowPt t) (groupPt t a) b).symm)

/-- and, where the vectors' entries less themselves are zero, the reference's reconstruction. -/
theorem hat_point (h0 : ∀ i, vecs m c i - vecs m c i = (0 : EReal)) (t : Fin cfg0.N) (a : Fin 2) (b : Fin 512) (k : Fin 64) :
    (hatOf (iblk m c 0 t) (iblk m c 1 t) (iblk m c 2 t) (iblk m c 3 t) (iblk m c 4 t) : FVec Ideal S1x2x1x512x64 .f32) (ix5 0 a 0 b k)
      = Cert.ReferenceIdeal.Hand.hat (F := Ideal) (vecs m c) (ix5 (rowPt t) (groupPt t a) 0 b k) := by
  rw [block_table]
  refine (hatOf_apply (iblk m c 0 t) (iblk m c 1 t) (iblk m c 2 t) _ (iblk m c 4 t) table_one a b k).trans ((table_code _ k).trans ?_)
  refine (?_ : _ = _).trans (Cert.ReferenceIdeal.Hand.hat_apply (vecs m c) (rowPt t) (groupPt t a) b h0 k).symm
  rw [codes_eq]
  exact congrArg (fun d => codes (F := Ideal) (ix3 0 (first d) k)) (block_row m c t a b)

/-! ## The arrays -/

/-- The errors' array ends holding the reference's errors. -/
theorem final_errs : (dats m 0 c).arrAt 7 cfg0.N = Cert.ReferenceIdeal.Hand.errs (F := Ideal) (vecs m c) := by
  refine (dats m 0 c).arrAt_eq_of_covers 7 _ covers7 fun t _ (y : S1x2x1x512.Idx) => ?_
  obtain ⟨a, b, rfl⟩ := block4 y
  exact (congrFun (after0_7 m c t) _).trans ((errs_point m c t a b).trans (congrArg _ (place7 t a b).symm))

/-- The shortcodes' array ends holding the reference's shortcodes. -/
theorem final_codes : (dats m 0 c).arrAt 6 cfg0.N = Cert.ReferenceIdeal.Hand.shortcodes (F := Ideal) (vecs m c) := by
  refine (dats m 0 c).arrAt_eq_of_covers 6 _ covers6 fun t _ (y : S1x2x1x512.Idx) => ?_
  obtain ⟨a, b, rfl⟩ := block4 y
  exact (congrFun (after0_6 m c t) _).trans ((codes_point m c t a b).trans (congrArg _ (place6 t a b).symm))

/-- Where the vectors' entries less themselves are zero, the reconstruction's array ends holding the reference's. -/
theorem final_hat (h0 : ∀ i, vecs m c i - vecs m c i = (0 : EReal)) :
    (dats m 0 c).arrAt 5 cfg0.N = Cert.ReferenceIdeal.Hand.hat (F := Ideal) (vecs m c) := by
  refine (dats m 0 c).arrAt_eq_of_covers 5 _ covers5 fun t _ (y : S1x2x1x512x64.Idx) => ?_
  obtain ⟨a, b, k, rfl⟩ := block5 y
  exact (congrFun (after0_5 m c t) _).trans ((hat_point m c h0 t a b k).trans (congrArg _ (place5 t a b k).symm))

end Cert.KernelIdeal.Hand

end
-- ==== Proof.Value.Run.lean ====
/-
The kernel's run with its results' values.

After its blocks the kernel weighs the errors with the mask, adds them up and divides by the number of sequence
positions, and writes the codebook loss, which is zero. This module reads those lines and states that every execution of
the kernel ends with each result at the reference's value, where the vectors' entries less themselves are zero.
-/
module

public import proofs.«01_k».proof.Proof.Value.Arrays
public import Idealize.ShloMosaic.Adequacy

@[expose] public section

noncomputable section

namespace Cert.KernelIdeal.Hand

open Cert.KernelIdeal Cert.KernelIdeal.Gen Idealize.ShloMosaic Idealize.ShloMosaic.TcCoe Idealize.SL.Sem Idealize.ShloMosaic.StableHlo

/-! ## The lines after the blocks -/

section Tail

variable {F : FTy → Type} [FloatOps F]
variable (V : Valuation τ sig (Elt F))

set_option maxRecDepth 8192
set_option maxHeartbeats 8000000

/-- The lines after the blocks leave the commitment loss of the mask and of the errors they find. -/
theorem tail_commit :
    StableHlo.after (List.flatten [hostOps1 (F := F)]) V (Proc.devRef .tc main_v0_2)
      = commit (V (Proc.devRef .tc main_arg1)) (V (Proc.devRef .tc main_v0_4)) := by
  simp only [hostOps1, List.flatten_cons, List.flatten_nil, List.append_nil,
    StableHlo.TRef.nullary, StableHlo.TRef.unary, StableHlo.TRef.binary, StableHlo.TRef.ternary, StableHlo.TRef.reshape, StableHlo.TRef.nary,
    StableHlo.TRef.toBuf, StableHlo.TRef.ofBuf, cast_eq]
  after_results
  rfl

/-- They leave zero as the codebook loss. -/
theorem tail_codebook :
    StableHlo.after (List.flatten [hostOps1 (F := F)]) V (Proc.devRef .tc main_v0_3) = constant S_ .f32 0x00000000#32 := by
  simp only [hostOps1, List.flatten_cons, List.flatten_nil, List.append_nil,
    StableHlo.TRef.nullary, StableHlo.TRef.unary, StableHlo.TRef.binary, StableHlo.TRef.ternary, StableHlo.TRef.reshape, StableHlo.TRef.nary,
    StableHlo.TRef.toBuf, StableHlo.TRef.ofBuf, cast_eq]
  after_results

end Tail

variable (m : (ℓ : Loc nD τ sig) → Buf (Elt Ideal) ℓ) (ρ : Dev nD → PrngReg)

/-- The commitment loss the kernel ends with is the reference's, of the mask and the reference's errors. -/
theorem final_commit (c : Dev nD) :
    Pipeline.afterTail₀ cfgs (dats m) 0 (V0 m) [hostOps1] c main_v0_2
      = Cert.ReferenceIdeal.Hand.commit (F := Ideal) (m ((c : Thread nD τ).loc main_arg1)) (Cert.ReferenceIdeal.Hand.errs (F := Ideal) (vecs m c)) := by
  unfold Pipeline.afterTail₀
  refine (tail_commit _).trans ?_
  refine (congrArg₂ (commit (F := Ideal))
    ((Pipeline.withArrays_of_ne _ c (V0 m c) _ main_arg1 (by exact (by decide : ∀ w, Pipeline.arrRef spec0 w ≠ main_arg1))).trans (V_main_arg1 m c))
    ((Pipeline.withArrays_arr spec0 (by decide) c (V0 m c) (fun w => (dats m 0 c).arrAt w cfg0.N) 7).trans (final_errs m c))).trans rfl

/-- Every execution of the kernel ends with each result at the reference's value and with the arguments unchanged, where
    the vectors' entries less themselves are zero. -/
theorem run (h0 : ∀ (c : Dev nD) i, vecs m c i - vecs m c i = (0 : EReal)) :
    θ_run defs (onTc (τ := τ) (main (F := Ideal))) ⟨m, fun _ => 0, ρ⟩ fun r => ∀ c : Dev nD,
      r.2.mem ((c.tc : Thread nD τ).loc main_v0_0) = Cert.ReferenceIdeal.Hand.hat (F := Ideal) (vecs m c)
      ∧ r.2.mem ((c.tc : Thread nD τ).loc main_v0_1) = Cert.ReferenceIdeal.Hand.shortcodes (F := Ideal) (vecs m c)
      ∧ r.2.mem ((c.tc : Thread nD τ).loc main_v0_2)
          = Cert.ReferenceIdeal.Hand.commit (F := Ideal) (m ((c.tc : Thread nD τ).loc main_arg1)) (Cert.ReferenceIdeal.Hand.errs (F := Ideal) (vecs m c))
      ∧ r.2.mem ((c.tc : Thread nD τ).loc main_v0_3) = constant (F := Ideal) S_ .f32 0x00000000#32
      ∧ r.2.mem ((c.tc : Thread nD τ).loc main_v0_4) = Cert.ReferenceIdeal.Hand.errs (F := Ideal) (vecs m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨
      ((h.1 c).1 5).trans (final_hat m c (h0 c)),
      ((h.1 c).1 6).trans (final_codes m c),
      ((h.1 c).2 main_v0_2 (Pipeline.mem_restRefs_of main_v0_2 (by decide) (by decide))).trans (final_commit m c),
      ((h.1 c).2 main_v0_3 (Pipeline.mem_restRefs_of main_v0_3 (by decide) (by decide))).trans (by
        unfold Pipeline.afterTail₀; exact tail_codebook _),
      ((h.1 c).1 7).trans (final_errs m c),
      h.2 c⟩)
    (θ_run_and (run_main m ρ) (unchanged m ρ))

end Cert.KernelIdeal.Hand

end
-- ==== Proof.lean ====
/- Assembles the claims: the three frames, the preservation, and the equation of the results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Frame.BitsRun
public import proofs.«01_k».proof.Proof.Frame.IdealRun
public import proofs.«01_k».proof.Proof.Reference.Run
public import proofs.«01_k».proof.Proof.Value.Finite
public import proofs.«01_k».proof.Proof.Value.Run
public import Idealize.ShloMosaic.Adequacy
public import Idealize.ShloMosaic.Init

@[expose] public section

noncomputable section

namespace Cert.Proof

open Idealize.ShloMosaic Idealize.SL.Sem

/-- The kernel runs, leaves its arguments as they were and every semaphore counter at zero. -/
theorem frame_kernel : Cert.quiescent_Kernel := fun m g _ => Cert.Kernel.Hand.frame m g

/-- So does its idealization. -/
theorem frame_kernelIdeal : Cert.quiescent_KernelIdeal := fun m g _ => Cert.KernelIdeal.Hand.frame m g

/-- So does the reference, which has no semaphores. -/
theorem frame_reference : Cert.quiescent_ReferenceIdeal := fun m g _ =>
  (θ_run Cert.ReferenceIdeal.defs _ _).mono
    (fun _ h => ⟨fun c => (h c).2.2.2.2.2, sem_eq_zero_of_no_sems (by decide) _⟩)
    (Cert.ReferenceIdeal.Hand.run m g)

/-- The idealization does the same under the precondition, which it does not need. -/
theorem frame_kernelIdeal_finite : Cert.quiescent_KernelIdeal_pre_finite := fun m g _ => Cert.KernelIdeal.Hand.frame m g

/-- So does the reference. -/
theorem frame_reference_finite : Cert.quiescent_ReferenceIdeal_pre_finite := fun m g _ => frame_reference m g trivial

/-- Over the extended reals, on vectors whose entries are all finite, the kernel and the reference end with the same five
    results. -/
theorem equation : Cert.algebraic_KernelIdeal_ReferenceIdeal_pre_finite := fun m g m' g' hfin hargs =>
  ⟨fun c => Cert.ReferenceIdeal.Hand.hat (F := Ideal) (Cert.KernelIdeal.Hand.vecs m c),
    fun c => Cert.ReferenceIdeal.Hand.shortcodes (F := Ideal) (Cert.KernelIdeal.Hand.vecs m c),
    fun c => Cert.ReferenceIdeal.Hand.commit (F := Ideal) (m ((c.tc : Thread Cert.KernelIdeal.nD Cert.KernelIdeal.τ).loc Cert.KernelIdeal.main_arg1))
      (Cert.ReferenceIdeal.Hand.errs (F := Ideal) (Cert.KernelIdeal.Hand.vecs m c)),
    fun _ => constant (F := Ideal) Cert.ReferenceIdeal.S_ .f32 0x00000000#32,
    fun c => Cert.ReferenceIdeal.Hand.errs (F := Ideal) (Cert.KernelIdeal.Hand.vecs m c),
    Cert.KernelIdeal.Hand.run m g fun c => Cert.Pre_finite.Hand.sub_self _ _ (hfin c),
    (θ_run Cert.ReferenceIdeal.defs _ _).mono
      (fun _ h c => by
        have e0 := (hargs c).1
        have e1 := (hargs c).2
        obtain ⟨r0, r1, r2, r3, r4, r5⟩ := h c
        exact ⟨r0.trans (congrArg (Cert.ReferenceIdeal.Hand.hat (F := Ideal)) e0),
          r1.trans (congrArg (Cert.ReferenceIdeal.Hand.shortcodes (F := Ideal)) e0),
          r2.trans (congrArg₂ (Cert.ReferenceIdeal.Hand.commit (F := Ideal)) e1 (congrArg (Cert.ReferenceIdeal.Hand.errs (F := Ideal)) e0)),
          r3, r4.trans (congrArg (Cert.ReferenceIdeal.Hand.errs (F := Ideal)) e0), r5⟩)
      (Cert.ReferenceIdeal.Hand.run m' g')⟩

/-- Everything the certificate claims. -/
theorem claim : Cert.Claim :=
  ⟨Cert.Kernel.Gen.facts, Cert.KernelIdeal.Gen.facts, Cert.ReferenceIdeal.Gen.facts, Cert.Pre_finite.Hand.facts,
    frame_kernel, frame_kernelIdeal, frame_kernelIdeal_finite, frame_reference, frame_reference_finite, trivial, equation⟩

end Cert.Proof

end
